-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_spread_and_untied [hPre_spread_and_untied : Cert.Pre_spread_and_untied.Facts] (m : (ℓ : Loc Cert.KernelIdeal.nD Cert.KernelIdeal.τ Cert.KernelIdeal.sig) → Buf (Elt Ideal) ℓ) : Prop :=
  ∀ c : Dev Cert.KernelIdeal.nD,
    (Cert.Pre_spread_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_spread_and_untied [hPre_spread_and_untied : Cert.Pre_spread_and_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_spread_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_spread_and_untied [hKernelIdeal : Cert.KernelIdeal.Facts] [hPre_spread_and_untied : Cert.Pre_spread_and_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_spread_and_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_spread_and_untied [hReferenceIdeal : Cert.ReferenceIdeal.Facts] [hPre_spread_and_untied : Cert.Pre_spread_and_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_spread_and_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "seventh" .f32 0x3E124925#32 ((1 / 7 : ℝ) : EReal)

def algebraic_KernelIdeal_ReferenceIdeal_pre_spread_and_untied [hKernelIdeal : Cert.KernelIdeal.Facts] [hReferenceIdeal : Cert.ReferenceIdeal.Facts] [hPre_spread_and_untied : Cert.Pre_spread_and_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_spread_and_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_spread_and_untied : Cert.Pre_spread_and_untied.Facts),
    quiescent_Kernel (hKernel := hKernel)
    ∧ quiescent_KernelIdeal (hKernelIdeal := hKernelIdeal)
    ∧ quiescent_KernelIdeal_pre_spread_and_untied (hKernelIdeal := hKernelIdeal) (hPre_spread_and_untied := hPre_spread_and_untied)
    ∧ quiescent_ReferenceIdeal (hReferenceIdeal := hReferenceIdeal)
    ∧ quiescent_ReferenceIdeal_pre_spread_and_untied (hReferenceIdeal := hReferenceIdeal) (hPre_spread_and_untied := hPre_spread_and_untied)
    ∧ preserves_Kernel_KernelIdeal
    ∧ algebraic_KernelIdeal_ReferenceIdeal_pre_spread_and_untied (hKernelIdeal := hKernelIdeal) (hReferenceIdeal := hReferenceIdeal) (hPre_spread_and_untied := hPre_spread_and_untied)
-- ==== Pre_spread_and_untied.lean ====
abbrev S2048x2048 : Shape := ⟨2, ![2048, 2048]⟩
abbrev S_ : Shape := ⟨0, ![]⟩
abbrev S1x1 : Shape := ⟨2, ![1, 1]⟩

class Facts : Prop where
  reducesTo_S2048x2048_S_d0_1 : S2048x2048.ReducesTo [0, 1] S_
  h_S_ : 0 < S_.numel
  bcast_S_S1x1 : S_.BroadcastsInDim S1x1 (![] : Fin 0 → Fin S1x1.rank)
  bcast_S1x1_S2048x2048_0_1 : S1x1.BroadcastsInDim S2048x2048 (![0, 1] : Fin 2 → Fin S2048x2048.rank)
  bcast_S_S2048x2048 : S_.BroadcastsInDim S2048x2048 (![] : Fin 0 → Fin S2048x2048.rank)

variable [Facts]

def fn_where {F : FTy → Type} [FloatOps F] (arg0 : IVec S_ 1) (arg1 : FVec F S_ .f32) (arg2 : FVec F S_ .f32) : FVec F S_ .f32 :=
  let v0 : FVec F S_ .f32 := id arg2
  let v1 : FVec F S_ .f32 := select arg0 arg1 v0
  v1

def fn_var {F : FTy → Type} [FloatOps F] (arg0 : FVec F S2048x2048 .f32) (arg1 : IVec S_ 32) : FVec F S_ .f32 :=
  let cst : FVec F S_ .f32 := constant S_ .f32 0x00000000#32
  let v0 : FVec F S_ .f32 := (fun x v => Host.reduceAdd x v reducesTo_S2048x2048_S_d0_1 h_S_) arg0 cst
  let v1 : FVec F S1x1 .f32 := broadcastInDim S1x1 ![] bcast_S_S1x1 v0
  let cst_0 : FVec F S_ .f32 := constant S_ .f32 0x4A800000#32
  let v2 : FVec F S1x1 .f32 := broadcastInDim S1x1 ![] bcast_S_S1x1 cst_0
  let v3 : FVec F S1x1 .f32 := Host.divf v1 v2
  let v4 : FVec F S2048x2048 .f32 := broadcastInDim S2048x2048 ![0, 1] bcast_S1x1_S2048x2048_0_1 v3
  let v5 : FVec F S2048x2048 .f32 := subf arg0 v4
  let v6 : FVec F S2048x2048 .f32 := mulf v5 v5
  let v7 : FVec F S_ .f32 := sitofp .f32 arg1
  let cst_1 : FVec F S_ .f32 := constant S_ .f32 0x4A800000#32
  let v8 : FVec F S_ .f32 := subf cst_1 v7
  let cst_2 : FVec F S_ .f32 := constant S_ .f32 0x00000000#32
  let v9 : FVec F S_ .f32 := (fun x v => Host.reduceAdd x v reducesTo_S2048x2048_S_d0_1 h_S_) v6 cst_2
  let v10 : FVec F S_ .f32 := Host.divf v9 v8
  let cst_3 : FVec F S_ .f32 := constant S_ .f32 0x00000000#32
  let v11 : IVec S_ 1 := cmpf .ogt v8 cst_3
  let cst_4 : FVec F S_ .f32 := constant S_ .f32 0x7FC00000#32
  let v12 : FVec F S_ .f32 := fn_where (F := F) v11 v10 cst_4
  v12

def fn_std {F : FTy → Type} [FloatOps F] (arg0 : FVec F S2048x2048 .f32) (arg1 : IVec S_ 32) : FVec F S_ .f32 :=
  let v0 : FVec F S_ .f32 := fn_var (F := F) arg0 arg1
  let v1 : FVec F S_ .f32 := Host.sqrt v0
  v1

def fn_part1 {F : FTy → Type} [FloatOps F] (main_v11 : FVec F S2048x2048 .f32) (main_v16 : IVec S2048x2048 1) (main_cst_4 : FVec F S_ .f32) : IVec S2048x2048 1 :=
  let main_v17 : FVec F S2048x2048 .f32 := broadcastInDim S2048x2048 ![] bcast_S_S2048x2048 main_cst_4
  let main_v18 : IVec S2048x2048 1 := cmpf .une main_v11 main_v17
  let main_v19 : IVec S2048x2048 1 := andi main_v16 main_v18
  let main_cst_5 : FVec F S_ .f32 := constant S_ .f32 0x40B00000#32
  let main_v20 : FVec F S2048x2048 .f32 := broadcastInDim S2048x2048 ![] bcast_S_S2048x2048 main_cst_5
  let main_v21 : IVec S2048x2048 1 := cmpf .une main_v11 main_v20
  let main_v22 : IVec S2048x2048 1 := andi main_v19 main_v21
  main_v22

def fn {F : FTy → Type} [FloatOps F] (main_arg0 : FVec F S2048x2048 .f32) (main_arg1 : FVec F S_ .f32) : IVec S2048x2048 1 :=
  let main_c : IVec S_ 32 := constantI S_ 32 1#32
  let main_v0 : FVec F S_ .f32 := fn_std (F := F) main_arg0 main_c
  let main_cst : FVec F S_ .f32 := constant S_ .f32 0x00000000#32
  let main_v1 : FVec F S_ .f32 := (fun x v => Host.reduceAdd x v reducesTo_S2048x2048_S_d0_1 h_S_) main_arg0 main_cst
  let main_cst_0 : FVec F S_ .f32 := constant S_ .f32 0x4A800000#32
  let main_v2 : FVec F S_ .f32 := Host.divf main_v1 main_cst_0
  let main_v3 : FVec F S2048x2048 .f32 := broadcastInDim S2048x2048 ![] bcast_S_S2048x2048 main_v2
  let main_v4 : FVec F S2048x2048 .f32 := subf main_arg0 main_v3
  let main_v5 : FVec F S2048x2048 .f32 := broadcastInDim S2048x2048 ![] bcast_S_S2048x2048 main_v0
  let main_v6 : FVec F S2048x2048 .f32 := Host.divf main_v4 main_v5
  let main_v7 : FVec F S2048x2048 .f32 := broadcastInDim S2048x2048 ![] bcast_S_S2048x2048 main_arg1
  let main_v8 : FVec F S2048x2048 .f32 := Host.divf main_v6 main_v7
  let main_v9 : FVec F S2048x2048 .f32 := Host.absf main_v8
  let main_cst_1 : FVec F S_ .f32 := constant S_ .f32 0x40E00000#32
  let main_v10 : FVec F S2048x2048 .f32 := broadcastInDim S2048x2048 ![] bcast_S_S2048x2048 main_cst_1
  let main_v11 : FVec F S2048x2048 .f32 := mulf main_v9 main_v10
  let main_cst_2 : FVec F S_ .f32 := constant S_ .f32 0x00000000#32
  let main_v12 : IVec S_ 1 := cmpf .ogt main_v0 main_cst_2
  let main_cst_3 : FVec F S_ .f32 := constant S_ .f32 0x3FC00000#32
  let main_v13 : FVec F S2048x2048 .f32 := broadcastInDim S2048x2048 ![] bcast_S_S2048x2048 main_cst_3
  let main_v14 : IVec S2048x2048 1 := cmpf .une main_v11 main_v13
  let main_v15 : IVec S2048x2048 1 := broadcastInDim S2048x2048 ![] bcast_S_S2048x2048 main_v12
  let main_v16 : IVec S2048x2048 1 := andi main_v15 main_v14
  let main_cst_4 : FVec F S_ .f32 := constant S_ .f32 0x40600000#32
  fn_part1 (F := F) main_v11 main_v16 main_cst_4
-- ==== Kernel.lean ====
abbrev S2048x2048 : Shape := ⟨2, ![2048, 2048]⟩
abbrev S_ : Shape := ⟨0, ![]⟩
abbrev S1 : Shape := ⟨1, ![1]⟩
abbrev S512x2048 : Shape := ⟨2, ![512, 2048]⟩
abbrev S2 : Shape := ⟨1, ![2]⟩
abbrev S1x512x2048 : Shape := ⟨3, ![1, 512, 2048]⟩
abbrev S1x1x1 : Shape := ⟨3, ![1, 1, 1]⟩

abbrev nBuf : Space → Nat
  | .hbm => 4
  | .vmem => 5
  | .smem => 2
  | _ => 0

abbrev bufTy : (tb : Table) → Fin (tcTables nBuf tb) → BufTy
  | .hbm, ⟨0, _⟩ => ⟨S2048x2048, .f32⟩
  | .hbm, ⟨1, _⟩ => ⟨S_, .f32⟩
  | .hbm, ⟨2, _⟩ => ⟨S1, .f32⟩
  | .hbm, ⟨3, _⟩ => ⟨S2048x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S2048x2048, .f32⟩
  | .local _ .smem, ⟨0, _⟩ => ⟨S1, .f32⟩
  | .local _ .smem, ⟨1, _⟩ => ⟨S2, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_stg0_0 : Ref sig .tc := ⟨.smem, 0, rfl⟩
abbrev cc0_scratch1 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c512_i32 : BitVec 32 := 512#32
  let v25 : BitVec 32 := Scalar.muli arg0 c512_i32
  let v26 : Index := Scalar.indexCast v25
  let c0_9 : Index := 0#32
  ![v26.toNat, 0]
def k0_cond3 (i : grid0.Coords) : BitVec 1 :=
  let arg0 : BitVec 32 := BitVec.ofNat 32 (i 0).val
  let c4_i32_0 : BitVec 32 := 4#32
  let v3 : BitVec 1 := Scalar.cmpi .sge arg0 c4_i32_0
  let v4 : BitVec 32 := Scalar.extui v3
  let c0_i32_1 : BitVec 32 := 0#32
  let v5 : BitVec 1 := Scalar.cmpi .ne v4 c0_i32_1
  v5

def k0_off2 (i : grid0.Coords) : Fin 2 → Nat :=
  let arg0 : BitVec 32 := BitVec.ofNat 32 (i 0).val
  let c4_i32_2 : BitVec 32 := 4#32
  let v6 : BitVec 32 := Scalar.subi arg0 c4_i32_2
  let c512_i32 : BitVec 32 := 512#32
  let v22 : BitVec 32 := Scalar.muli v6 c512_i32
  let v23 : Index := Scalar.indexCast v22
  let c0_10 : Index := 0#32
  ![v23.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "seventh" => some ((1 / 7 : ℝ) : EReal)
  | _ => none
-- ==== ReferenceIdeal.lean ====
abbrev S2048x2048 : Shape := ⟨2, ![2048, 2048]⟩
abbrev S_ : Shape := ⟨0, ![]⟩
abbrev S1x1 : Shape := ⟨2, ![1, 1]⟩
abbrev S7 : Shape := ⟨1, ![7]⟩
abbrev S1 : Shape := ⟨1, ![1]⟩
abbrev S8 : Shape := ⟨1, ![8]⟩
abbrev S4194304 : Shape := ⟨1, ![4194304]⟩
abbrev S1x4194304 : Shape := ⟨2, ![1, 4194304]⟩
abbrev S8x1 : Shape := ⟨2, ![8, 1]⟩
abbrev S8x4194304 : Shape := ⟨2, ![8, 4194304]⟩
abbrev S4194304x1 : Shape := ⟨2, ![4194304, 1]⟩

abbrev nBuf : Space → Nat
  | .hbm => 95
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .i32⟩
  | .hbm, ⟨7, _⟩ => ⟨S_, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S1x1, .f32⟩
  | .hbm, ⟨12, _⟩ => ⟨S1x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .i1⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S_, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S7, .f32⟩
  | .hbm, ⟨52, _⟩ => ⟨S_, .f32⟩
  | .hbm, ⟨53, _⟩ => ⟨S7, .f32⟩
  | .hbm, ⟨54, _⟩ => ⟨S7, .f32⟩
  | .hbm, ⟨55, _⟩ => ⟨S1, .f32⟩
  | .hbm, ⟨56, _⟩ => ⟨S_, .f32⟩
  | .hbm, ⟨57, _⟩ => ⟨S7, .f32⟩
  | .hbm, ⟨58, _⟩ => ⟨S7, .f32⟩
  | .hbm, ⟨59, _⟩ => ⟨S7, .f32⟩
  | .hbm, ⟨60, _⟩ => ⟨S7, .f32⟩
  | .hbm, ⟨61, _⟩ => ⟨S1, .f32⟩
  | .hbm, ⟨62, _⟩ => ⟨S7, .f32⟩
  | .hbm, ⟨63, _⟩ => ⟨S7, .f32⟩
  | .hbm, ⟨64, _⟩ => ⟨S7, .f32⟩
  | .hbm, ⟨65, _⟩ => ⟨S1, .f32⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S4194304, .f32⟩
  | .hbm, ⟨71, _⟩ => ⟨S1x4194304, .f32⟩
  | .hbm, ⟨72, _⟩ => ⟨S8x1, .f32⟩
  | .hbm, ⟨73, _⟩ => ⟨S8x4194304, .f32⟩
  | .hbm, ⟨74, _⟩ => ⟨S8x4194304, .f32⟩
  | .hbm, ⟨75, _⟩ => ⟨S8x4194304, .f32⟩
  | .hbm, ⟨76, _⟩ => ⟨S8x4194304, .f32⟩
  | .hbm, ⟨77, _⟩ => ⟨S8x4194304, .i32⟩
  | .hbm, ⟨78, _⟩ => ⟨S_, .f32⟩
  | .hbm, ⟨79, _⟩ => ⟨S_, .i32⟩
  | .hbm, ⟨80, _⟩ => ⟨S4194304, .f32⟩
  | .hbm, ⟨81, _⟩ => ⟨S4194304, .i32⟩
  | .hbm, ⟨82, _⟩ => ⟨S_, .i32⟩
  | .hbm, ⟨83, _⟩ => ⟨S4194304, .i32⟩
  | .hbm, ⟨84, _⟩ => ⟨S4194304, .i1⟩
  | .hbm, ⟨85, _⟩ => ⟨S_, .i32⟩
  | .hbm, ⟨86, _⟩ => ⟨S4194304, .i32⟩
  | .hbm, ⟨87, _⟩ => ⟨S4194304, .i32⟩
  | .hbm, ⟨88, _⟩ => ⟨S4194304, .i32⟩
  | .hbm, ⟨89, _⟩ => ⟨S4194304x1, .i32⟩
  | .hbm, ⟨90, _⟩ => ⟨S4194304, .f32⟩
  | .hbm, ⟨91, _⟩ => ⟨S2048x2048, .f32⟩
  | .hbm, ⟨92, _⟩ => ⟨S2048x2048, .f32⟩
  | .hbm, ⟨93, _⟩ => ⟨S2048x2048, .f32⟩
  | .hbm, ⟨94, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_c : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_cst_0 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_cst_1 : Ref sig .tc := ⟨.hbm, 17, rfl⟩
abbrev main_call0_call0_v8 : Ref sig .tc := ⟨.hbm, 18, rfl⟩
abbrev main_call0_call0_cst_2 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_cst_3 : Ref sig .tc := ⟨.hbm, 22, rfl⟩
abbrev main_call0_call0_v11 : Ref sig .tc := ⟨.hbm, 23, rfl⟩
abbrev main_call0_call0_cst_4 : Ref sig .tc := ⟨.hbm, 24, rfl⟩
abbrev main_call0_call0_call0_v0 : Ref sig .tc := ⟨.hbm, 25, rfl⟩
abbrev main_call0_v0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst_1 : Ref sig .tc := ⟨.hbm, 34, rfl⟩
abbrev main_cst_2 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_cst_3 : Ref sig .tc := ⟨.hbm, 44, rfl⟩
abbrev main_cst_4 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_cst : Ref sig .tc := ⟨.hbm, 49, rfl⟩
abbrev main_call2_v3 : Ref sig .tc := ⟨.hbm, 50, rfl⟩
abbrev main_call2_v4 : Ref sig .tc := ⟨.hbm, 51, rfl⟩
abbrev main_call2_cst_0 : Ref sig .tc := ⟨.hbm, 52, rfl⟩
abbrev main_call2_v5 : Ref sig .tc := ⟨.hbm, 53, rfl⟩
abbrev main_call2_v6 : Ref sig .tc := ⟨.hbm, 54, rfl⟩
abbrev main_call2_v7 : Ref sig .tc := ⟨.hbm, 55, rfl⟩
abbrev main_call2_cst_1 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_v12 : Ref sig .tc := ⟨.hbm, 61, rfl⟩
abbrev main_call2_v13 : Ref sig .tc := ⟨.hbm, 62, rfl⟩
abbrev main_call2_v14 : Ref sig .tc := ⟨.hbm, 63, rfl⟩
abbrev main_call2_v15 : Ref sig .tc := ⟨.hbm, 64, rfl⟩
abbrev main_call2_v16 : Ref sig .tc := ⟨.hbm, 65, rfl⟩
abbrev main_v12 : Ref sig .tc := ⟨.hbm, 66, rfl⟩
abbrev main_cst_5 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_call3_v0 : Ref sig .tc := ⟨.hbm, 77, rfl⟩
abbrev main_call3_cst : Ref sig .tc := ⟨.hbm, 78, rfl⟩
abbrev main_call3_c : Ref sig .tc := ⟨.hbm, 79, rfl⟩
abbrev main_call3_v1_0 : Ref sig .tc := ⟨.hbm, 80, rfl⟩
abbrev main_v22 : Ref sig .tc := ⟨.hbm, 81, rfl⟩
abbrev main_c_6 : Ref sig .tc := ⟨.hbm, 82, rfl⟩
abbrev main_v23 : Ref sig .tc := ⟨.hbm, 83, rfl⟩
abbrev main_v24 : Ref sig .tc := ⟨.hbm, 84, rfl⟩
abbrev main_c_7 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩

abbrev nD : Nat := 1
abbrev τ : Topo := Topo.v7x

variable {F : FTy → Type} [FloatOps F]
-- ==== Proof.KFrame.lean ====
/- The printed kernel runs, whatever its floats are, and leaves its arguments and counters as they were. Nothing is said
   here of what it writes, so the scratch arrays and the output blocks are carried at contents that aren't named. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import Idealize.ShloMosaic.Lib.Tactic
public import Idealize.ShloMosaic.Lib.Claim

@[expose] public section

set_option maxRecDepth 16384

noncomputable section

namespace Cert.HandPrinted

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

/-- A buffer held at contents that aren't named. -/
abbrev some_owned {sp : Space} {s : Shape} {e : EltTy} (c : Dev nD) (v : Memref sig .tc sp s e) : sProp 𝕄 :=
  iprop(∃ d, owns (c : Thread nD τ) v fullShare d)

/-- No grid point both fills and emits. -/
theorem not_both : ∀ i : grid0.Coords, k0_cond1 i = 1#1 → ¬ k0_cond3 i = 1#1 := by decide +kernel

set_option maxHeartbeats 4000000 in
/-- At any grid point and from any contents the body runs, and its two input buffers end as they were. -/
theorem body_runs (c : Dev nD) (i : grid0.Coords)
    (arg1 : Memref sig .tc .smem S1 .f32) (harg1 : arg1.IsWhole) (arg2 : Memref sig .tc .vmem S512x2048 .f32) (harg2 : arg2.IsWhole)
    (arg3 : Memref sig .tc .vmem S512x2048 .f32) (harg3 : arg3.IsWhole) (arg4 : Memref sig .tc .vmem S2048x2048 .f32) (harg4 : arg4.IsWhole)
    (arg5 : Memref sig .tc .smem S2 .f32) (harg5 : arg5.IsWhole)
    (x0 : Vec F S1 .f32) (x1 : Vec F S512x2048 .f32) (E : Set ℕ) (K : PUnit → sProp 𝕄) :
    iprop(owns (c : Thread nD τ) arg1 fullShare x0 ∗ owns (c : Thread nD τ) arg2 fullShare x1
        ∗ some_owned c arg3 ∗ some_owned c arg4 ∗ some_owned c arg5
        ∗ (iprop(owns (c : Thread nD τ) arg1 fullShare x0 ∗ owns (c : Thread nD τ) arg2 fullShare x1
            ∗ some_owned c arg3 ∗ some_owned c arg4 ∗ some_owned c arg5) -∗ K ⟨⟩))
      ⊢ wp frame (wpE (defs₀ (F := F)) Variants.none c none) E (cc0__quant_kernel i arg1 harg1 arg2 harg2 arg3 harg3 arg4 harg4 arg5 harg5) K := by
  simp only [cc0__quant_kernel_eq_skeleton]; unfold cc0__quant_kernel_skel
  unfold some_owned owns
  iintro ⟨⟨%f0, %hf0, H0⟩, ⟨%f1, %hf1, H1⟩, ⟨%d2, %f2, %hf2, H2⟩, ⟨%d3, %fs0, %hfs0, HS0⟩, ⟨%d4, %fs1, %hfs1, HS1⟩, Hk⟩
  by_cases hc0 : k0_cond1 i = 1#1
  · have hc2 := not_both i hc0
    by_cases hc1 : Scalar.cmpi .ne (Scalar.extui (Scalar.cmpi .eq (BitVec.ofNat 32 (i 0).val) 0#32)) 0#32 = 1#1
    all_goals
      sl_exec (disch := first | sl_exact hc0 | sl_exact hc1 | sl_exact hc2)
      sl_step
      iapply Hk
      isplitl [H0]; · iexists _; isplitr; swap; · iexact H0
                      ipureintro; exact hf0
      isplitl [H1]; · iexists _; isplitr; swap; · iexact H1
                      ipureintro; exact hf1
      isplitl [H2]; · iexists _; iexists _; isplitr; swap; · iexact H2
                      ipureintro; rfl
      isplitl [HS0]; · iexists _; iexists _; isplitr; swap; · iexact HS0
                       ipureintro; rfl
      iexists _; iexists _; isplitr; swap; · iexact HS1
      ipureintro; rfl
  · by_cases hc2 : k0_cond3 i = 1#1
    all_goals
      sl_exec (disch := first | sl_exact hc0 | sl_exact hc2)
      sl_step
      iapply Hk
      isplitl [H0]; · iexists _; isplitr; swap; · iexact H0
                      ipureintro; exact hf0
      isplitl [H1]; · iexists _; isplitr; swap; · iexact H1
                      ipureintro; exact hf1
      isplitl [H2]; · iexists _; iexists _; isplitr; swap; · iexact H2
                      ipureintro; rfl
      isplitl [HS0]; · iexists _; iexists _; isplitr; swap; · iexact HS0
                       ipureintro; rfl
      iexists _; iexists _; isplitr; swap; · iexact HS1
      ipureintro; rfl

variable (m : (ℓ : Loc nD τ sig) → Buf (Elt F) ℓ) (ρ : Dev nD → PrngReg)

/-- The one window whose contents aren't named: the output's. -/
def unnamed : Fin 3 → Bool := fun w => w.val == 2

/-- The proof data: both inputs stay at their blocks, the output and the scratch arrays are at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Dat.unnamed (cfg := cfg0) ⟨2, h⟩ t
  Φ _ := Pipeline.ΦA spec0 c
  q _ := fullShare
  owed _ := 0

/-- The proof data start from the contents the arrays have at the launch. -/
theorem A_eq (c : Dev nD) (w : Fin cfg0.W) : (dats m 0 c).A w = V m c (Pipeline.arrRef spec0 w) := by
  dsimp only [dats]

/-- A point leaves the scale's buffer at its block. -/
theorem after0 (c : Dev nD) (t : Fin cfg0.N) : (dats m 0 c).after 0 t = iblk m c 0 t := by dsimp only [dats]
/-- A point leaves the weights' buffer at its block. -/
theorem after1 (c : Dev nD) (t : Fin cfg0.N) : (dats m 0 c).after 1 t = iblk m c 1 t := by dsimp only [dats]

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ some_owned c (win0_2.stage (cfg0.slots t 2)))

/-- What the body leaves at a point. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ some_owned c (win0_2.stage (cfg0.slots t 2)))

/-- The scratch state of the launch is both scratch arrays at some contents, with the generator's register. -/
theorem rest_eq (c : Dev nD) :
    (Pipeline.ΦA spec0 c : sProp 𝕄)
      = iprop(iprop(some_owned c (Memref.whole cc0_scratch0) ∗ some_owned c (Memref.whole cc0_scratch1)) ∗ (∃ r, prngReg c r)) := by
  unfold Pipeline.ΦA; rw [scopedRest0_eq]; simp only [some_owned, owns_whole]; try rfl

/-- At every grid point the body leads from what it is given to what it must leave. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after0 m c), before0_1_of m (dats m 0 c) (A_eq m c 1) (after1 m c)]
  rw [show (dats m 0 c).owesAt () t.succ = (dats m 0 c).owesAt () t.castSucc from rfl,
    show (dats m 0 c).Φ t.succ = Pipeline.ΦA spec0 c from rfl,
    show (dats m 0 c).Φ t.castSucc = Pipeline.ΦA spec0 c from rfl,
    show (dats m 0 c).leavesExact 0 t = owns (c : Thread nD τ) (win0_0.stage (cfg0.slots t 0)) fullShare ((dats m 0 c).after 0 t) from rfl,
    show (dats m 0 c).leavesExact 1 t = owns (c : Thread nD τ) (win0_1.stage (cfg0.slots t 1)) fullShare ((dats m 0 c).after 1 t) from rfl,
    after0, after1, rest_eq]
  iintro ⟨⟨⟨HS0, HS1⟩, Hg⟩, Ho, ⟨%d0, H0⟩, ⟨%d1, H1⟩, H2⟩
  iapply (body_runs c (grid0.coords t) _ _ _ _ _ _ _ _ _ _ (iblk m c 0 t) (iblk m c 1 t) Set.univ _)
  isplitl [H0]; · iexact H0
  isplitl [H1]; · iexact H1
  isplitl [H2]; · iexact H2
  isplitl [HS0]; · iexact HS0
  isplitl [HS1]; · iexact HS1
  iintro ⟨H0, H1, H2, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  iexact H2

/-- The procedure called at a point is the body on the buffers of that point. -/
theorem row_at (t : Fin cfg0.N) :
    defs₀ (F := F) .tc cfg0.body (cfg0.bodyArgs t (cfg0.slots t)) = bodyAt0 t := by
  unfold defs₀; rw [Defs.onTc_tc]

/-- The body meets the launch's requirement at every point. -/
theorem body_obligation (c : Dev nD) :
    BodyObligation (dats (F := F) m 0 c) (defs₀ (F := F)) Variants.none () Set.univ unnamed := fun t => by
  rw [bigSep_W0, bigSep_W0, row_at]
  exact triple_restated (sound_body m c t) rfl .rfl fun _ => .rfl

set_option backward.isDefEq.respectTransparency.types false in
/-- The whole program runs; the inputs end as they were and every counter at zero. -/
theorem run_main : θ_run defs (onTc (τ := τ) (main (F := F))) (s₀ m ρ)
    (fun r => Pipeline.RDat.FramePost (cfgs 0) (fun c => (dats m 0 c).toRForget unnamed) (V m) r ∧ r.2.sem = fun _ => 0) :=
  Pipeline.θ_run_frame_track_forget (Q' := _) cfgs (dats m) (0 : Fin 1) launch0 defs₀ Variants.none unnamed m ρ main
    (hbody := fun c => (body_obligation m c).loose) (hshare := fun c => (dats m 0 c).share_full fun _ => rfl)
    (howed := fun _ _ => rfl) (V := V m) (hmain := hmain m Variants.none) (hA := A_eq m)
    (hin := fun _ => Entails.refl _) (hout := fun _ => Entails.refl _)

/-- The printed kernel's frame, at any floats: it runs, its arguments end unchanged, every counter ends at zero. -/
theorem printed_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine (θ_run defs _ _).mono (fun r h => ⟨fun c => ⟨?_, ?_⟩, h.2⟩) (run_main m ρ)
  · have e := (h.1 c).1 1
    rw [Pipeline.RDat.ArrAt_in _ 1 rfl] at e
    exact e.trans ((A_eq m c 1).trans (V_main_arg0 m c))
  · exact ((h.1 c).2 main_arg1 (Pipeline.mem_restRefs_of main_arg1 (by decide) (by decide))).trans (V_main_arg1 m c)

end Cert.HandPrinted

end
-- ==== Proof.KBody.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Tactic
public import Idealize.ShloMosaic.Lib.VecWindow
public import Idealize.ShloMosaic.Lib.Pipeline.Value

@[expose] public section

set_option maxRecDepth 16384

noncomputable section

namespace Cert.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

/-! ## What the body reads and leaves, as plain functions -/

/-- Two words, the first at position zero. -/
def words (a b : Elt Ideal .f32) : Vec Ideal S2 .f32 := fun y => if (y 0).val = 0 then a else b

/-- The zero the two running sums start from. -/
def zeroWord : Elt Ideal .f32 := Scalar.ofBits (F := Ideal) .f32 0x00000000#32

/-- The single place of a one-element array. -/
def here : S1.Idx := fun a => ⟨0, by fin_cases a; decide⟩

/-- The condition under which the body resets the running sums: the grid coordinate is zero. -/
abbrev isFirst (i : grid0.Coords) : Prop :=
  Scalar.cmpi .ne (Scalar.extui (Scalar.cmpi .eq (BitVec.ofNat 32 (i 0).val) 0#32)) 0#32 = 1#1

/-- `d'` is `d` with the 512 rows from row `o` on replaced by `x`. -/
def Overlaid (o : ℕ) (x : Vec Ideal S512x2048 .f32) (d d' : Vec Ideal S2048x2048 .f32) : Prop :=
  (∀ y : S2048x2048.Idx, (y 0).val < o → d' y = d y) ∧
  ∀ (y : S2048x2048.Idx) (z : S512x2048.Idx), (y 0).val = o + (z 0).val → (y 1).val = (z 1).val → d' y = x z

/-- Reading one of the two accumulator words gives the first or the second by its position. -/
theorem word_read (v : Memref sig .tc .smem S2 .f32) (hv : v.IsWhole) (a b : Elt Ideal .f32) (r : Rect S2) (x : r.shape.Idx) :
    View.readAt (Elt Ideal) v.view r.toLoadRect (hv.unread (words a b)) x = if (r.idx x 0).val = 0 then a else b := by
  show View.read (Elt Ideal) v.view (hv.unread (words a b)) (r.idx x) = _
  rw [hv.read_unread]; rfl

/-- Reading the scale's one-element buffer gives its element. -/
theorem one_read (v : Memref sig .tc .smem S1 .f32) (hv : v.IsWhole) (d : Vec Ideal S1 .f32) (r : Rect S1) (x : r.shape.Idx) :
    View.readAt (Elt Ideal) v.view r.toLoadRect (hv.unread d) x = d here := by
  show View.read (Elt Ideal) v.view (hv.unread d) (r.idx x) = _
  rw [hv.read_unread]; congr 1
  funext a; apply Fin.ext
  have h1 := (r.idx x a).isLt
  fin_cases a
  simp only [here]
  exact Nat.lt_one_iff.mp h1

/-- Reading a whole block buffer gives the block it holds. -/
theorem block_read (v : Memref sig .tc .vmem S512x2048 .f32) (hv : v.IsWhole) (d : Vec Ideal S512x2048 .f32)
    (h : ∀ a, (![0, 0] : Fin 2 → ℕ) a + S512x2048.size a ≤ S512x2048.size a) :
    View.readAt (Elt Ideal) v.view (Rect.unit (s := S512x2048) ![0, 0] S512x2048.size h).toLoadRect (hv.unread d) = d := by
  rw [View.readAt_full, hv.read_unread]

/-- After both accumulator words are stored, the buffer reads as these two words, whatever it held. -/
theorem words_written (v : Memref sig .tc .smem S2 .f32) (f : v.view.ty.Contents (Elt Ideal)) (a b : Elt Ideal .f32)
    (L : List (View.Piece (Elt Ideal) S2 .f32)) :
    v.view.read (Elt Ideal) (v.view.writes (Elt Ideal) f
      (⟨Rect.unit (s := S2) ![1] S1.size inb_S2_S1_1, fun _ => b⟩ :: ⟨Rect.unit (s := S2) ![0] S1.size inb_S2_S1_0, fun _ => a⟩ :: L)) = words a b := by
  funext y
  have hy : (y 0).val < 2 := (y 0).isLt
  by_cases h : (y 0).val = 0
  · rw [View.read_writes_cons_miss_of_axis _ _ _ _ y 0 1 1 rfl rfl rfl (by omega),
      View.read_writes_cons_hit_of_coords _ _ _ _ _ here y (by
        intro k; fin_cases k; show (y 0).val = 0 + 1 * 0; omega)]
    exact (if_pos h).symm
  · rw [View.read_writes_cons_hit_of_coords _ _ _ _ _ here y (by
        intro k; fin_cases k; show (y 0).val = 1 + 1 * 0; omega)]
    exact (if_neg h).symm

/-- Storing a block at row `o` of the cache overlays the 512 rows from there on and leaves the rows above as they were. -/
theorem rows_written (v : Memref sig .tc .vmem S2048x2048 .f32) (f : v.view.ty.Contents (Elt Ideal)) (x : Vec Ideal S512x2048 .f32)
    (o : ℕ) (off : Fin 2 → ℕ) (hoff : off = ![o, 0]) (h : ∀ a, off a + S512x2048.size a ≤ S2048x2048.size a) :
    Overlaid o x (v.view.read (Elt Ideal) f)
      (v.view.read (Elt Ideal) (v.view.writes (Elt Ideal) f [⟨Rect.unit (s := S2048x2048) off S512x2048.size h, k0_pay3 x⟩])) := by
  subst hoff
  refine ⟨fun y hy => ?_, fun y z h0 h1 => ?_⟩
  · rw [View.read_writes_cons_miss_of_axis _ _ _ _ y 0 o 512 rfl rfl rfl (.inl hy)]; rfl
  · rw [View.read_writes_cons_hit_of_coords _ _ _ _ _ z y (by
        intro k; fin_cases k
        · show (y 0).val = o + 1 * (z 0).val; omega
        · show (y 1).val = 0 + 1 * (z 1).val; omega)]
    exact congrFun (shapeCast_self x _) z

/-- The rows an emitting point reads back start at 512 times its place among the emitting points. -/
theorem off2_eq : ∀ i : grid0.Coords, k0_cond3 i = 1#1 → k0_off2 i = ![512 * ((i 0).val - 4), 0] := by decide +kernel

/-! ## The body's three cases -/

set_option maxHeartbeats 1000000 in
/-- The first point: from any contents of the scratch buffers, the running sums become the block's own, started from zero, and the block is kept in its rows. -/
theorem body_first (c : Dev nD) (i : grid0.Coords)
    (arg1 : Memref sig .tc .smem S1 .f32) (harg1 : arg1.IsWhole) (arg2 : Memref sig .tc .vmem S512x2048 .f32) (harg2 : arg2.IsWhole)
    (arg3 : Memref sig .tc .vmem S512x2048 .f32) (harg3 : arg3.IsWhole) (arg4 : Memref sig .tc .vmem S2048x2048 .f32) (harg4 : arg4.IsWhole)
    (arg5 : Memref sig .tc .smem S2 .f32) (harg5 : arg5.IsWhole)
    (hc0 : k0_cond1 i = 1#1) (hc1 : isFirst i) (hc2 : ¬k0_cond3 i = 1#1)
    (x0 : Vec Ideal S1 .f32) (x1 d3 : Vec Ideal S512x2048 .f32) (d4 : Vec Ideal S2048x2048 .f32) (d5 : Vec Ideal S2 .f32) (E : Set ℕ) (K : PUnit → sProp 𝕄) :
    iprop(owns (c : Thread nD τ) arg1 fullShare x0 ∗ owns (c : Thread nD τ) arg2 fullShare x1 ∗ owns (c : Thread nD τ) arg3 fullShare d3 ∗ owns (c : Thread nD τ) arg4 fullShare d4 ∗ owns (c : Thread nD τ) arg5 fullShare d5
        ∗ (iprop(owns (c : Thread nD τ) arg1 fullShare x0 ∗ owns (c : Thread nD τ) arg2 fullShare x1 ∗ owns (c : Thread nD τ) arg3 fullShare d3 ∗ (∃ d', ⌜Overlaid (512 * (i 0).val) x1 d4 d'⌝ ∗ owns (c : Thread nD τ) arg4 fullShare d') ∗ owns (c : Thread nD τ) arg5 fullShare (words (k0_pay1 x1 zeroWord) (k0_pay2 x1 zeroWord))) -∗ K ⟨⟩))
      ⊢ wp frame (wpE (defs₀ (F := Ideal)) Variants.none c none) E (cc0__quant_kernel i arg1 harg1 arg2 harg2 arg3 harg3 arg4 harg4 arg5 harg5) K := by
  simp only [cc0__quant_kernel_eq_skeleton]; unfold cc0__quant_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg1.eq_unread hf0; obtain rfl := harg2.eq_unread hf1; obtain rfl := harg5.eq_unread hfs1
  sl_exec (disch := first | sl_exact hc0 | sl_exact hc1 | sl_exact hc2)
  sl_step
  iapply Hk
  isplitl [H0]; · iexists _; isplitr; swap; · iexact H0
                  ipureintro; exact hf0
  isplitl [H1]; · iexists _; isplitr; swap; · iexact H1
                  ipureintro; exact hf1
  isplitl [H2]; · iexists _; isplitr; swap; · iexact H2
                  ipureintro; exact hf2
  isplitl [HS0]
  · iexists _; isplitr; swap
    · iexists _; isplitr; swap; · iexact HS0
      ipureintro; rfl
    ipureintro
    have h := rows_written arg4 fs0 x1 (512 * (i 0).val) (k0_off1 i) (k0_off1_eq i) (k0_off1_inb i hc0)
    rw [hfs0] at h
    rw [block_read arg2 harg2 x1]
    exact h
  iexists _; isplitr; swap; · iexact HS1
  ipureintro
  rw [block_read arg2 harg2 x1]
  exact words_written _ _ _ _ _

set_option maxHeartbeats 1000000 in
/-- A later filling point: the running sums grow by the block's own, and the block is kept in its rows. -/
theorem body_fill (c : Dev nD) (i : grid0.Coords)
    (arg1 : Memref sig .tc .smem S1 .f32) (harg1 : arg1.IsWhole) (arg2 : Memref sig .tc .vmem S512x2048 .f32) (harg2 : arg2.IsWhole)
    (arg3 : Memref sig .tc .vmem S512x2048 .f32) (harg3 : arg3.IsWhole) (arg4 : Memref sig .tc .vmem S2048x2048 .f32) (harg4 : arg4.IsWhole)
    (arg5 : Memref sig .tc .smem S2 .f32) (harg5 : arg5.IsWhole)
    (hc0 : k0_cond1 i = 1#1) (hc1 : ¬isFirst i) (hc2 : ¬k0_cond3 i = 1#1)
    (x0 : Vec Ideal S1 .f32) (x1 d3 : Vec Ideal S512x2048 .f32) (d4 : Vec Ideal S2048x2048 .f32) (a b : Elt Ideal .f32) (E : Set ℕ) (K : PUnit → sProp 𝕄) :
    iprop(owns (c : Thread nD τ) arg1 fullShare x0 ∗ owns (c : Thread nD τ) arg2 fullShare x1 ∗ owns (c : Thread nD τ) arg3 fullShare d3 ∗ owns (c : Thread nD τ) arg4 fullShare d4 ∗ owns (c : Thread nD τ) arg5 fullShare (words a b)
        ∗ (iprop(owns (c : Thread nD τ) arg1 fullShare x0 ∗ owns (c : Thread nD τ) arg2 fullShare x1 ∗ owns (c : Thread nD τ) arg3 fullShare d3 ∗ (∃ d', ⌜Overlaid (512 * (i 0).val) x1 d4 d'⌝ ∗ owns (c : Thread nD τ) arg4 fullShare d') ∗ owns (c : Thread nD τ) arg5 fullShare (words (k0_pay1 x1 a) (k0_pay2 x1 b))) -∗ K ⟨⟩))
      ⊢ wp frame (wpE (defs₀ (F := Ideal)) Variants.none c none) E (cc0__quant_kernel i arg1 harg1 arg2 harg2 arg3 harg3 arg4 harg4 arg5 harg5) K := by
  simp only [cc0__quant_kernel_eq_skeleton]; unfold cc0__quant_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg1.eq_unread hf0; obtain rfl := harg2.eq_unread hf1; obtain rfl := harg5.eq_unread hfs1
  sl_exec (disch := first | sl_exact hc0 | sl_exact hc1 | sl_exact hc2)
  sl_step
  iapply Hk
  isplitl [H0]; · iexists _; isplitr; swap; · iexact H0
                  ipureintro; exact hf0
  isplitl [H1]; · iexists _; isplitr; swap; · iexact H1
                  ipureintro; exact hf1
  isplitl [H2]; · iexists _; isplitr; swap; · iexact H2
                  ipureintro; exact hf2
  isplitl [HS0]
  · iexists _; isplitr; swap
    · iexists _; isplitr; swap; · iexact HS0
      ipureintro; rfl
    ipureintro
    have h := rows_written arg4 fs0 x1 (512 * (i 0).val) (k0_off1 i) (k0_off1_eq i) (k0_off1_inb i hc0)
    rw [hfs0] at h
    rw [block_read arg2 harg2 x1]
    exact h
  iexists _; isplitr; swap; · iexact HS1
  ipureintro
  rw [block_read arg2 harg2 x1]
  rw [words_written]
  congr 2
  · exact word_read arg5 harg5 a b _ _
  · exact word_read arg5 harg5 a b _ _

set_option maxHeartbeats 1000000 in
/-- An emitting point: the output block is computed from the two sums, the scale and the kept rows; the scratch buffers stay as they are. -/
theorem body_emit (c : Dev nD) (i : grid0.Coords)
    (arg1 : Memref sig .tc .smem S1 .f32) (harg1 : arg1.IsWhole) (arg2 : Memref sig .tc .vmem S512x2048 .f32) (harg2 : arg2.IsWhole)
    (arg3 : Memref sig .tc .vmem S512x2048 .f32) (harg3 : arg3.IsWhole) (arg4 : Memref sig .tc .vmem S2048x2048 .f32) (harg4 : arg4.IsWhole)
    (arg5 : Memref sig .tc .smem S2 .f32) (harg5 : arg5.IsWhole)
    (hc0 : ¬k0_cond1 i = 1#1) (hc2 : k0_cond3 i = 1#1)
    (x0 : Vec Ideal S1 .f32) (x1 d3 : Vec Ideal S512x2048 .f32) (d4 : Vec Ideal S2048x2048 .f32) (a b : Elt Ideal .f32)
    (x : Vec Ideal S512x2048 .f32) (hx : ∀ (y : S2048x2048.Idx) (z : S512x2048.Idx), (y 0).val = 512 * ((i 0).val - 4) + (z 0).val → (y 1).val = (z 1).val → d4 y = x z) (E : Set ℕ) (K : PUnit → sProp 𝕄) :
    iprop(owns (c : Thread nD τ) arg1 fullShare x0 ∗ owns (c : Thread nD τ) arg2 fullShare x1 ∗ owns (c : Thread nD τ) arg3 fullShare d3 ∗ owns (c : Thread nD τ) arg4 fullShare d4 ∗ owns (c : Thread nD τ) arg5 fullShare (words a b)
        ∗ (iprop(owns (c : Thread nD τ) arg1 fullShare x0 ∗ owns (c : Thread nD τ) arg2 fullShare x1 ∗ owns (c : Thread nD τ) arg3 fullShare (k0_pay4 a b (x0 here) (x0 here) x) ∗ owns (c : Thread nD τ) arg4 fullShare d4 ∗ owns (c : Thread nD τ) arg5 fullShare (words a b)) -∗ K ⟨⟩))
      ⊢ wp frame (wpE (defs₀ (F := Ideal)) Variants.none c none) E (cc0__quant_kernel i arg1 harg1 arg2 harg2 arg3 harg3 arg4 harg4 arg5 harg5) K := by
  simp only [cc0__quant_kernel_eq_skeleton]; unfold cc0__quant_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg1.eq_unread hf0; obtain rfl := harg2.eq_unread hf1; obtain rfl := harg4.eq_unread hfs0; obtain rfl := harg5.eq_unread hfs1
  sl_exec (disch := first | sl_exact hc0 | sl_exact hc2)
  sl_step
  iapply Hk
  isplitl [H0]; · iexists _; isplitr; swap; · iexact H0
                  ipureintro; exact hf0
  isplitl [H1]; · iexists _; isplitr; swap; · iexact H1
                  ipureintro; exact hf1
  isplitl [H2]
  · iexists _; isplitr; swap; · iexact H2
    ipureintro
    unfold body_emit.sl.r body_emit.sl.r_1 body_emit.sl.r_2
    rw [View.read_writes_full]
    congr 1
    · exact word_read arg5 harg5 a b _ _
    · exact word_read arg5 harg5 a b _ _
    · exact one_read arg1 harg1 x0 _ _
    · exact one_read arg1 harg1 x0 _ _
    · funext z
      show View.read (Elt Ideal) arg4.view (harg4.unread d4) _ = x z
      rw [harg4.read_unread]
      refine hx _ z ?_ ?_
      · have e : k0_off2 i 0 = 512 * ((i 0).val - 4) := congrFun (off2_eq i hc2) 0
        show k0_off2 i 0 + 1 * (z 0).val = _; omega
      · have e : k0_off2 i 1 = 0 := congrFun (off2_eq i hc2) 1
        show k0_off2 i 1 + 1 * (z 1).val = _; omega
  isplitl [HS0]; · iexists _; isplitr; swap; · iexact HS0
                   ipureintro; exact hfs0
  iexists _; isplitr; swap; · iexact HS1
  ipureintro; exact hfs1

end Cert.Hand

end

end
-- ==== Proof.KRun.lean ====
module

public import proofs.«01_k».proof.Proof.KBody
public import Idealize.ShloMosaic.Lib.Claim

@[expose] public section

set_option maxRecDepth 16384

noncomputable section

namespace Cert.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

/-! ## The kernel's result as a function of its two arrays -/

/-- Row block `k` of a 2048 by 2048 array: its rows `512 k` to `512 k + 511`. -/
def rowsOf (w : Vec Ideal S2048x2048 .f32) (k : ℕ) : Vec Ideal S512x2048 .f32 := fun z =>
  w (Shape.pair ⟨(512 * k + (z 0).val) % 2048, Nat.mod_lt _ (by decide)⟩ (z 1))

/-- The running sum of the weights after the first `n` row blocks. -/
def sumUpto (w : Vec Ideal S2048x2048 .f32) : ℕ → Elt Ideal .f32
  | 0 => zeroWord
  | n + 1 => k0_pay1 (rowsOf w n) (sumUpto w n)

/-- The running sum of the weights' squares after the first `n` row blocks. -/
def sqUpto (w : Vec Ideal S2048x2048 .f32) : ℕ → Elt Ideal .f32
  | 0 => zeroWord
  | n + 1 => k0_pay2 (rowsOf w n) (sqUpto w n)

/-- The kernel's result: each row block computed from the two whole sums, the scale and the block. -/
def kerOut (w : Vec Ideal S2048x2048 .f32) (a : Elt Ideal .f32) : Vec Ideal S2048x2048 .f32 := fun y =>
  k0_pay4 (sumUpto w 4) (sqUpto w 4) a a (rowsOf w ((y 0).val / 512))
    (Shape.pair ⟨(y 0).val % 512, Nat.mod_lt _ (by decide)⟩ (y 1))

/-- A row block of the result is the emitting computation on that row block of the weight. -/
theorem rows_kerOut (w : Vec Ideal S2048x2048 .f32) (a : Elt Ideal .f32) (k : ℕ) (hk : k < 4) :
    rowsOf (kerOut w a) k = k0_pay4 (sumUpto w 4) (sqUpto w 4) a a (rowsOf w k) := by
  funext z
  have hz : (z 0).val < 512 := (z 0).isLt
  have e : (512 * k + (z 0).val) % 2048 = 512 * k + (z 0).val := Nat.mod_eq_of_lt (by omega)
  show k0_pay4 _ _ a a (rowsOf w ((512 * k + (z 0).val) % 2048 / 512)) (Shape.pair ⟨(512 * k + (z 0).val) % 2048 % 512, _⟩ (z 1)) = _
  have e1 : (512 * k + (z 0).val) % 2048 / 512 = k := by omega
  have e2 : (512 * k + (z 0).val) % 2048 % 512 = (z 0).val := by omega
  simp only [e1, e2]
  exact congrArg _ (Shape.pair_eta z)

/-! ## The schedule -/

/-- The first four grid points are those that fill the cache. -/
theorem filling : ∀ t : Fin cfg0.N, k0_cond1 (grid0.coords t) = 1#1 ↔ t.val < 4 :=
  (by decide +kernel : ∀ t : Fin grid0.N, k0_cond1 (grid0.coords t) = 1#1 ↔ t.val < 4)
/-- The last four grid points are those that write results. -/
theorem emitting : ∀ t : Fin cfg0.N, k0_cond3 (grid0.coords t) = 1#1 ↔ 4 ≤ t.val :=
  (by decide +kernel : ∀ t : Fin grid0.N, k0_cond3 (grid0.coords t) = 1#1 ↔ 4 ≤ t.val)
/-- Only the first grid point clears the accumulators. -/
theorem starting : ∀ t : Fin cfg0.N, isFirst (grid0.coords t) ↔ t.val = 0 :=
  (by decide +kernel : ∀ t : Fin grid0.N, isFirst (grid0.coords t) ↔ t.val = 0)
/-- A point's coordinate is its place in the grid. -/
theorem place : ∀ t : Fin cfg0.N, (grid0.coords t 0).val = t.val :=
  (by decide +kernel : ∀ t : Fin grid0.N, (grid0.coords t 0).val = t.val)
/-- The output's block is written back exactly at the last four points. -/
theorem flush_late : ∀ t : Fin cfg0.N, (cfg0.win 2).flush t = true ↔ 4 ≤ t.val :=
  (by decide +kernel : ∀ t : Fin grid0.N, win0_2.flush t = true ↔ 4 ≤ t.val)
/-- A filling point is given the weight block of its own number. -/
theorem in_block : ∀ t : Fin cfg0.N, t.val < 4 → win0_1.index t = ![t.val, 0] :=
  (by decide +kernel : ∀ t : Fin grid0.N, t.val < 4 → win0_1.index t = ![t.val, 0])
/-- The output block of a point is its number less four, and block 0 for the filling points. -/
theorem out_block : ∀ t : Fin cfg0.N, win0_2.index t = ![t.val - 4, 0] :=
  (by decide +kernel : ∀ t : Fin grid0.N, win0_2.index t = ![t.val - 4, 0])

variable (m : (ℓ : Loc nD τ sig) → Buf (Elt Ideal) ℓ) (ρ : Dev nD → PrngReg)

/-- The weight as the kernel finds it. -/
abbrev wt (c : Dev nD) : Vec Ideal S2048x2048 .f32 := V m c main_arg0
/-- The scale as the kernel finds it. -/
abbrev sc (c : Dev nD) : Elt Ideal .f32 := (V m c main_v0 : Vec Ideal S1 .f32) here

/-- At a filling point the weight's staged block is the point's row block. -/
theorem weight_block (c : Dev nD) (t : Fin cfg0.N) (ht : t.val < 4) : iblk m c 1 t = rowsOf (wt m c) t.val := by
  funext z
  have hz : (z 0).val < 512 := (z 0).isLt
  show wt m c ((win0_1.rect t).emb z) = wt m c _
  congr 1
  funext a; apply Fin.ext
  have e := in_block t ht
  match a with
  | ⟨0, _⟩ =>
    have e0 : win0_1.index t 0 = t.val := congrFun e 0
    show win0_1.index t 0 * 512 + 1 * (z 0).val = (512 * t.val + (z 0).val) % 2048
    omega
  | ⟨1, _⟩ =>
    have e1 : win0_1.index t 1 = 0 := congrFun e 1
    show win0_1.index t 1 * 2048 + 1 * (z 1).val = (z 1).val
    omega

/-- The staged scale is the scale array's one element. -/
theorem scale_block (c : Dev nD) (t : Fin cfg0.N) : (iblk m c 0 t : Vec Ideal S1 .f32) here = sc m c := by
  show (V m c main_v0 : Vec Ideal S1 .f32) ((win0_0.rect t).emb here) = _
  congr 1
  funext a; apply Fin.ext
  have h1 := ((win0_0.rect t).emb here a).isLt
  match a with
  | ⟨0, _⟩ => exact Nat.lt_one_iff.mp h1

/-! ## What the scratch buffers hold between points -/

/-- Before point `n`: the kept rows filled so far agree with the weight, and after the first point the two words
    are the running sums. -/
def Kept (w : Vec Ideal S2048x2048 .f32) (n : ℕ) (d4 : Vec Ideal S2048x2048 .f32) (d5 : Vec Ideal S2 .f32) : Prop :=
  (∀ y : S2048x2048.Idx, (y 0).val < 512 * min n 4 → d4 y = w y) ∧
    (n ≠ 0 → d5 = words (sumUpto w (min n 4)) (sqUpto w (min n 4)))

/-- The cache of the weights. -/
abbrev keep : Memref sig .tc .vmem S2048x2048 .f32 := Memref.whole cc0_scratch0
/-- The two accumulators. -/
abbrev sums : Memref sig .tc .smem S2 .f32 := Memref.whole cc0_scratch1

/-- The region invariant before point `n`. -/
def Inv (c : Dev nD) (n : ℕ) : sProp 𝕄 :=
  iprop((∃ d4, ∃ d5, ⌜Kept (wt m c) n d4 d5⌝ ∗ owns (c : Thread nD τ) keep fullShare d4 ∗ owns (c : Thread nD τ) sums fullShare d5)
    ∗ (∃ r, prngReg c r))

/-- The scratch state of the launch is the cache and the accumulators at some contents, with the generator's register. -/
theorem rest_eq (c : Dev nD) :
    (Pipeline.ΦA spec0 c : sProp 𝕄)
      = iprop(iprop((∃ d, owns (c : Thread nD τ) keep fullShare d) ∗ (∃ d, owns (c : Thread nD τ) sums fullShare d)) ∗ (∃ r, prngReg c r)) := by
  unfold Pipeline.ΦA; rw [scopedRest0_eq]; simp only [keep, sums, owns_whole]; try rfl

/-- The proof data: inputs stay at their blocks, the output's buffer is left at the point's row block of the result. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rowsOf (kerOut (wt m c) (sc m c)) (t.val - 4)
  Φ t := Inv m c t.val
  q _ := fullShare
  owed _ := 0

/-- The proof data start from the contents the arrays have at the launch. -/
theorem A_eq (c : Dev nD) (w : Fin cfg0.W) : (dats m 0 c).A w = V m c (Pipeline.arrRef spec0 w) := by
  dsimp only [dats]
/-- A point leaves the scale's buffer at its block. -/
theorem after0 (c : Dev nD) (t : Fin cfg0.N) : (dats m 0 c).after 0 t = iblk m c 0 t := by dsimp only [dats]
/-- A point leaves the weights' buffer at its block. -/
theorem after1 (c : Dev nD) (t : Fin cfg0.N) : (dats m 0 c).after 1 t = iblk m c 1 t := by dsimp only [dats]
/-- A point leaves the output's buffer at its row block of the result. -/
theorem after2 (c : Dev nD) (t : Fin cfg0.N) :
    (dats m 0 c).after 2 t = rowsOf (kerOut (wt m c) (sc m c)) (t.val - 4) := by dsimp only [dats]
/-- A point finds the scale's buffer at its block. -/
theorem before0 (c : Dev nD) (t : Fin cfg0.N) (d) : (dats m 0 c).before 0 t d = iblk m c 0 t :=
  before0_0_of m (dats m 0 c) (A_eq m c 0) (after0 m c) t d
/-- A point finds the weights' buffer at its block. -/
theorem before1 (c : Dev nD) (t : Fin cfg0.N) (d) : (dats m 0 c).before 1 t d = iblk m c 1 t :=
  before0_1_of m (dats m 0 c) (A_eq m c 1) (after1 m c) t d

/-- Caching block `n` and adding its two sums leads from the invariant of `n` blocks to that of `n + 1`. -/
theorem kept_step (w : Vec Ideal S2048x2048 .f32) (n : ℕ) (hn : n < 4) (d4 d' : Vec Ideal S2048x2048 .f32) (d5 : Vec Ideal S2 .f32)
    (h : Kept w n d4 d5) (ho : Overlaid (512 * n) (rowsOf w n) d4 d') :
    Kept w (n + 1) d' (words (k0_pay1 (rowsOf w n) (sumUpto w n)) (k0_pay2 (rowsOf w n) (sqUpto w n))) := by
  have e : min (n + 1) 4 = n + 1 := by omega
  refine ⟨fun y hy => ?_, fun _ => by rw [e]; rfl⟩
  rw [e] at hy
  by_cases hb : (y 0).val < 512 * n
  · rw [ho.1 y hb]; exact h.1 y (by rw [show min n 4 = n by omega]; exact hb)
  · have h2 := ho.2 y (Shape.pair ⟨(y 0).val - 512 * n, by show _ < 512; omega⟩ (y 1)) (by
      show (y 0).val = 512 * n + ((y 0).val - 512 * n); omega) rfl
    rw [h2]
    show w (Shape.pair ⟨(512 * n + ((y 0).val - 512 * n)) % 2048, _⟩ (y 1)) = w y
    congr 1
    refine Eq.trans ?_ (Shape.pair_eta y)
    congr 1; apply Fin.ext
    show (512 * n + ((y 0).val - 512 * n)) % 2048 = (y 0).val
    omega

/-! ## The body obligation -/

/-- The scale's buffer at a point. -/
abbrev mA (t : Fin cfg0.N) : Memref sig .tc .smem S1 .f32 := win0_0.stage (cfg0.slots t 0)
/-- The weights' buffer at a point. -/
abbrev mW (t : Fin cfg0.N) : Memref sig .tc .vmem S512x2048 .f32 := win0_1.stage (cfg0.slots t 1)
/-- The output's buffer at a point. -/
abbrev mO (t : Fin cfg0.N) : Memref sig .tc .vmem S512x2048 .f32 := win0_2.stage (cfg0.slots t 2)

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (mA t) fullShare ((dats m 0 c).before 0 t d))
    ∗ (∃ d, owns (c : Thread nD τ) (mW t) fullShare ((dats m 0 c).before 1 t d))
    ∗ (∃ d, owns (c : Thread nD τ) (mO t) fullShare ((dats m 0 c).before 2 t d)))

/-- What the body leaves at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- At every grid point the body leads from what it is given to what it must leave. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1]
  rw [show (dats m 0 c).owesAt () t.succ = (dats m 0 c).owesAt () t.castSucc from rfl,
    show (dats m 0 c).Φ t.succ = Inv m c (t.val + 1) from rfl,
    show (dats m 0 c).Φ t.castSucc = Inv m c t.val from rfl,
    show (dats m 0 c).leavesExact 0 t = owns (c : Thread nD τ) (mA t) fullShare ((dats m 0 c).after 0 t) from rfl,
    show (dats m 0 c).leavesExact 1 t = owns (c : Thread nD τ) (mW t) fullShare ((dats m 0 c).after 1 t) from rfl,
    after0, after1]
  have hN : t.val < 8 := lt_of_lt_of_eq t.isLt (show cfg0.N = 8 from N_0)
  unfold Inv
  by_cases h0 : t.val < 4
  · have hc0 := (filling t).mpr h0
    have hc2 : ¬ k0_cond3 (grid0.coords t) = 1#1 := fun h => by have := (emitting t).mp h; omega
    have hf : (cfg0.win 2).flush t = false := by
      rw [← Bool.not_eq_true, flush_late]; omega
    have hi : cfg0.idle 2 (cfg0.grid.coords t) = true := by
      show (!(k0_cond3 (grid0.coords t) == 1#1)) = true
      simpa using hc2
    rw [(dats m 0 c).leavesExact_idle 2 t hi hf]
    by_cases h1 : t.val = 0
    · have hc1 := (starting t).mpr h1
      iintro ⟨⟨⟨%d4, %d5, %hk, HS0, HS1⟩, Hg⟩, Ho, ⟨%d0, H0⟩, ⟨%d1, H1⟩, ⟨%d2, H2⟩⟩
      iapply (body_first c (grid0.coords t) _ _ _ _ _ _ _ _ _ _ hc0 hc1 hc2 (iblk m c 0 t) (iblk m c 1 t) _ d4 d5 Set.univ _)
      isplitl [H0]; · iexact H0
      isplitl [H1]; · iexact H1
      isplitl [H2]; · iexact H2
      isplitl [HS0]; · iexact HS0
      isplitl [HS1]; · iexact HS1
      iintro ⟨H0, H1, H2, ⟨%d', %ho, HS0⟩, HS1⟩
      isplitl [HS0 HS1 Hg]
      · isplitl [HS0 HS1]
        · iexists _; iexists _; isplitr; swap
          · isplitl [HS0]; · iexact HS0
            iexact HS1
          ipureintro
          rw [place, weight_block m c t h0] at ho
          rw [weight_block m c t h0]
          have hs := kept_step (wt m c) t.val h0 d4 d' d5 hk ho
          rw [h1] at hs ⊢
          exact hs
        iexact Hg
      isplitl [Ho]; · iexact Ho
      isplitl [H0]; · iexact H0
      isplitl [H1]; · iexact H1
      iexists _; iexact H2
    · have hc1 : ¬ isFirst (grid0.coords t) := fun h => h1 ((starting t).mp h)
      iintro ⟨⟨⟨%d4, %d5, %hk, HS0, HS1⟩, Hg⟩, Ho, ⟨%d0, H0⟩, ⟨%d1, H1⟩, ⟨%d2, H2⟩⟩
      have h5 := hk.2 h1
      rw [show min t.val 4 = t.val by omega] at h5
      subst h5
      iapply (body_fill c (grid0.coords t) _ _ _ _ _ _ _ _ _ _ hc0 hc1 hc2 (iblk m c 0 t) (iblk m c 1 t) _ d4 _ _ Set.univ _)
      isplitl [H0]; · iexact H0
      isplitl [H1]; · iexact H1
      isplitl [H2]; · iexact H2
      isplitl [HS0]; · iexact HS0
      isplitl [HS1]; · iexact HS1
      iintro ⟨H0, H1, H2, ⟨%d', %ho, HS0⟩, HS1⟩
      isplitl [HS0 HS1 Hg]
      · isplitl [HS0 HS1]
        · iexists _; iexists _; isplitr; swap
          · isplitl [HS0]; · iexact HS0
            iexact HS1
          ipureintro
          rw [place, weight_block m c t h0] at ho
          rw [weight_block m c t h0]
          exact kept_step (wt m c) t.val h0 d4 d' _ hk ho
        iexact Hg
      isplitl [Ho]; · iexact Ho
      isplitl [H0]; · iexact H0
      isplitl [H1]; · iexact H1
      iexists _; iexact H2
  · have hc0 : ¬ k0_cond1 (grid0.coords t) = 1#1 := fun h => h0 ((filling t).mp h)
    have h4 : 4 ≤ t.val := by omega
    have hc2 := (emitting t).mpr h4
    have hi : cfg0.idle 2 (cfg0.grid.coords t) = false := by
      show (!(k0_cond3 (grid0.coords t) == 1#1)) = false
      simpa using hc2
    rw [show (dats m 0 c).leavesExact 2 t = owns (c : Thread nD τ) (mO t) fullShare ((dats m 0 c).after 2 t) from by
      unfold Dat.leavesExact; rw [hi], after2, rows_kerOut _ _ _ (by omega)]
    iintro ⟨⟨⟨%d4, %d5, %hk, HS0, HS1⟩, Hg⟩, Ho, ⟨%d0, H0⟩, ⟨%d1, H1⟩, ⟨%d2, H2⟩⟩
    have h5 := hk.2 (by omega)
    rw [show min t.val 4 = 4 by omega] at h5
    subst h5
    iapply (body_emit c (grid0.coords t) _ _ _ _ _ _ _ _ _ _ hc0 hc2 (iblk m c 0 t) (iblk m c 1 t) _ d4 _ _ (rowsOf (wt m c) (t.val - 4)) (by
      intro y z hy0 hy1
      rw [place] at hy0
      have hz : (z 0).val < 512 := (z 0).isLt
      rw [hk.1 y (by rw [show min t.val 4 = 4 by omega]; omega)]
      show wt m c y = wt m c _
      congr 1
      refine (Shape.pair_eta y).symm.trans ?_
      congr 1
      · apply Fin.ext
        show (y 0).val = (512 * (t.val - 4) + (z 0).val) % 2048
        omega
      · exact Fin.ext hy1) Set.univ _)
    isplitl [H0]; · iexact H0
    isplitl [H1]; · iexact H1
    isplitl [H2]; · iexact H2
    isplitl [HS0]; · iexact HS0
    isplitl [HS1]; · iexact HS1
    rw [scale_block]
    iintro ⟨H0, H1, H2, HS0, HS1⟩
    isplitl [HS0 HS1 Hg]
    · isplitl [HS0 HS1]
      · iexists _; iexists _; isplitr; swap
        · isplitl [HS0]; · iexact HS0
          iexact HS1
        ipureintro
        refine ⟨fun y hy => hk.1 y (by rw [show min t.val 4 = 4 by omega]; rw [show min (t.val + 1) 4 = 4 by omega] at hy; exact hy), fun _ => ?_⟩
        rw [show min (t.val + 1) 4 = 4 by omega]
      iexact Hg
    isplitl [Ho]; · iexact Ho
    isplitl [H0]; · iexact H0
    isplitl [H1]; · iexact H1
    iexact H2

/-- The procedure called at a point is the body on the buffers of that point. -/
theorem row_at (t : Fin cfg0.N) :
    defs₀ (F := Ideal) .tc cfg0.body (cfg0.bodyArgs t (cfg0.slots t)) = bodyAt0 t := by
  unfold defs₀; rw [Defs.onTc_tc]

/-- The body meets the launch's requirement at every point. -/
theorem body_obligation (c : Dev nD) : BodyObligation (dats m 0 c) (defs₀ (F := Ideal)) Variants.none () Set.univ := fun t => by
  rw [bigSep_W0, bigSep_W0, row_at]
  exact triple_restated (sound_body m c t) rfl .rfl fun _ => .rfl

/-- The scratch state at the start satisfies the invariant of no block. -/
theorem hin (c : Dev nD) : Pipeline.ΦA spec0 c ⊢ (dats m 0 c).Φ 0 := by
  rw [show (dats m 0 c).Φ 0 = Inv m c 0 from rfl, rest_eq]
  unfold Inv
  iintro ⟨⟨⟨%d4, HS0⟩, ⟨%d5, HS1⟩⟩, Hg⟩
  isplitl [HS0 HS1]
  · iexists d4; iexists d5; isplitr; swap
    · isplitl [HS0]; · iexact HS0
      iexact HS1
    ipureintro
    exact ⟨fun y hy => absurd hy (by simp), fun h => absurd rfl h⟩
  iexact Hg

/-- The invariant after the last point gives the scratch state back. -/
theorem hout (c : Dev nD) : (dats m 0 c).Φ (Fin.last cfg0.N) ⊢ Pipeline.ΦA spec0 c := by
  rw [show (dats m 0 c).Φ (Fin.last cfg0.N) = Inv m c (Fin.last cfg0.N).val from rfl, rest_eq]
  unfold Inv
  iintro ⟨⟨%d4, %d5, %hk, HS0, HS1⟩, Hg⟩
  isplitl [HS0 HS1]
  · isplitl [HS0]
    · iexists _; iexact HS0
    iexists _; iexact HS1
  iexact Hg

/-! ## The run -/

set_option backward.isDefEq.respectTransparency.types false in
/-- The whole program runs; the arrays end at what the proof data say and every counter at zero. -/
theorem run_main : θ_run defs (onTc (τ := τ) (main (F := Ideal))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- What a late point writes back is its block of the whole result. -/
theorem flushed_eq (c : Dev nD) (t : Fin cfg0.N) (hf : (cfg0.win 2).flush t = true) :
    (dats m 0 c).flushed 2 t = ((cfg0.win 2).blk t).view.read (Elt Ideal) (kerOut (wt m c) (sc m c)) := by
  have h4 := (flush_late t).mp hf
  have hN : t.val < 8 := lt_of_lt_of_eq t.isLt (show cfg0.N = 8 from N_0)
  show (cfg0.win 2).cut (grid0.coords t) ((dats m 0 c).after 2 t) = _
  rw [after2]
  funext z
  have hz : (z 0).val < 512 := (z 0).isLt
  show kerOut (wt m c) (sc m c) _ = kerOut (wt m c) (sc m c) ((win0_2.rect t).emb z)
  congr 1
  funext a; apply Fin.ext
  have e := out_block t
  match a with
  | ⟨0, _⟩ =>
    have e0 : win0_2.index t 0 = t.val - 4 := congrFun e 0
    show (512 * (t.val - 4) + (z 0).val) % 2048 = win0_2.index t 0 * 512 + 1 * (z 0).val
    omega
  | ⟨1, _⟩ =>
    have e1 : win0_2.index t 1 = 0 := congrFun e 1
    show (z 1).val = win0_2.index t 1 * 2048 + 1 * (z 1).val
    omega

/-- The result array ends holding the kernel's result. -/
theorem final_out (c : Dev nD) : (dats m 0 c).arrAt 2 cfg0.N = kerOut (wt m c) (sc m c) :=
  (dats m 0 c).arrAt_eq_of_cover 2 (kerOut (wt m c) (sc m c)) (flushed_eq m c) fun y => by
    have hy : (y 0).val < 2048 := (y 0).isLt
    have hN : cfg0.N = 8 := N_0
    let t : Fin cfg0.N := ⟨(y 0).val / 512 + 4, by omega⟩
    have e := out_block t
    refine ⟨t, (flush_late t).mpr (by show 4 ≤ (y 0).val / 512 + 4; omega), ?_⟩
    have hm : (win0_2.rect t).emb (Shape.pair (d := S512x2048.size) ⟨(y 0).val % 512, Nat.mod_lt _ (by decide)⟩ (y 1)) = y := by
      funext a; apply Fin.ext
      match a with
      | ⟨0, _⟩ =>
        have e0 : win0_2.index t 0 = (y 0).val / 512 + 4 - 4 := congrFun e 0
        show win0_2.index t 0 * 512 + 1 * ((y 0).val % 512) = (y 0).val
        omega
      | ⟨1, _⟩ =>
        have e1 : win0_2.index t 1 = 0 := congrFun e 1
        show win0_2.index t 1 * 2048 + 1 * (y 1).val = (y 1).val
        omega
    rw [← hm]
    exact ((cfg0.win 2).blk t).view.emb_mem_set _

/-- The scale the kernel finds is the argument's single element. -/
theorem scale_eq (c : Dev nD) : sc m c = (m ((c : Thread nD τ).loc main_arg1) : Vec Ideal S_ .f32) (fun a => a.elim0) := by
  show (StableHlo.after hostOps0 (fun b => m (c, b)) main_v0 : Vec Ideal S1 .f32) here = _
  simp only [hostOps0, StableHlo.after_cons, StableHlo.after_nil]
  rw [StableHlo.reshape_result]
  rfl

/-- The kernel's program ends with `kerOut` of its arguments in the result array and with its arguments unchanged. -/
theorem kernel_run : θ_run defs (onTc (τ := τ) (main (F := Ideal))) ⟨m, fun _ => 0, ρ⟩ (fun r => ∀ c : Dev nD,
      r.2.mem ((c : Thread nD τ).loc main_v1) = kerOut (m ((c : Thread nD τ).loc main_arg0)) ((m ((c : Thread nD τ).loc main_arg1) : Vec Ideal S_ .f32) (fun a => a.elim0))
      ∧ r.2.mem ((c : Thread nD τ).loc main_arg0) = m ((c : Thread nD τ).loc main_arg0)
      ∧ r.2.mem ((c : Thread nD τ).loc main_arg1) = m ((c : Thread nD τ).loc main_arg1)) := by
  have h1 : θ_run defs (onTc (τ := τ) (main (F := Ideal))) (s₀ m ρ) (Pipeline.FramePost cfgs (dats m) 0 (V m)) :=
    (θ_run defs _ _).mono (fun _ h => h.1) (run_main m ρ)
  refine (θ_run defs _ _).mono (fun r h c => ?_) (θ_run_and h1 (frame_of m ρ (dats m) (A_eq m) h1))
  refine ⟨?_, h.2 c⟩
  have e := ((h.1 c).1 2).trans (final_out m c)
  rw [scale_eq, show wt m c = m ((c : Thread nD τ).loc main_arg0) from V_main_arg0 m c] at e
  exact e

/-- The kernel's frame at the ideal values: it runs, its arguments end unchanged, every counter ends at zero. -/
theorem kernel_frame : Cert.quiescent_KernelIdeal := fun m ρ _ =>
  have h1 : θ_run defs (onTc (τ := τ) (main (F := Ideal))) (s₀ m ρ) (Pipeline.FramePost cfgs (dats m) 0 (V m)) :=
    (θ_run defs _ _).mono (fun _ h => h.1) (run_main m ρ)
  θ_run_and (frame_of m ρ (dats m) (A_eq m) h1) ((θ_run defs _ _).mono (fun _ h => h.2) (run_main m ρ))

end Cert.Hand

end

end
-- ==== Proof.Algebra.lean ====
/- The two formulas on the extended reals, free of any program: rounding seven times the clipped quotient to the
   nearest integer, against picking the first nearest of the eight sevenths, and the variance computed from the two
   sums, against the sum of the squared deviations. -/
module

public import Idealize.ShloMosaic.PureOps.Ideal
public import Idealize.ShloMosaic.PureOps.Ideal.Laws
public import Mathlib.Tactic.Linarith
public import Mathlib.Tactic.FieldSimp
public import Mathlib.Tactic.Ring
public import Mathlib.Tactic.IntervalCases

@[expose] public section

noncomputable section

namespace Cert.Hand

open Idealize.ShloMosaic
open scoped BigOperators

/-- The number of weights. -/
def cnt : ℝ := 4194304

/-- The distance of a magnitude from the `j`-th seventh. -/
def gap (v : EReal) (j : ℕ) : EReal := max (v - ((j / 7 : ℝ) : EReal)) (-(v - ((j / 7 : ℝ) : EReal)))

/-- `k` is the first of the eight sevenths nearest to `v`. -/
def FirstNearest (v : EReal) (k : ℕ) : Prop :=
  k < 8 ∧ (∀ j, j < 8 → gap v k ≤ gap v j) ∧ ∀ j, j < k → gap v k < gap v j

/-! ## Rounding -/

/-- The distance from a real number to the grid point `j / 7` is the real distance. -/
theorem gap_coe (r : ℝ) (j : ℕ) : gap (r : EReal) j = ((|r - j / 7| : ℝ) : EReal) := by
  unfold gap
  rw [← EReal.coe_sub, ← EReal.coe_neg, ← EReal.coe_strictMono.monotone.map_max]; rfl

/-- The first nearest seventh of a magnitude in [0, 1], in plain inequalities. -/
theorem between (r : ℝ) (h0 : 0 ≤ r) (h1 : r ≤ 1) (k : ℕ) (hk : FirstNearest (r : EReal) k) :
    k < 8 ∧ (k : ℝ) - 1 / 2 < r * 7 ∧ r * 7 ≤ k + 1 / 2 := by
  obtain ⟨hk8, hle, hlt⟩ := hk
  simp only [gap_coe, EReal.coe_le_coe_iff, EReal.coe_lt_coe_iff] at hle hlt
  refine ⟨hk8, ?_, ?_⟩
  · rcases Nat.eq_zero_or_pos k with rfl | hp
    · push_cast; linarith
    · obtain ⟨n, rfl⟩ : ∃ n, k = n + 1 := ⟨k - 1, by omega⟩
      have h := hlt n (by omega)
      push_cast at h ⊢
      by_contra hc
      have h2 : r ≤ (n + 1) / 7 := by linarith
      rw [abs_of_nonpos (by linarith)] at h
      have := neg_abs_le (r - n / 7)
      rcases abs_cases (r - n / 7) with ⟨e, _⟩ | ⟨e, _⟩ <;> rw [e] at h <;> linarith
  · by_contra hc
    push Not at hc
    have h8 : k + 1 < 8 := by
      by_contra h
      have : k = 7 := by omega
      subst this; push_cast at hc; linarith
    have h := hle (k + 1) h8
    push_cast at h
    rw [abs_of_nonneg (by linarith)] at h
    rcases abs_cases (r - (k + 1) / 7) with ⟨e, _⟩ | ⟨e, _⟩ <;> rw [e] at h <;> linarith

/-- Rounding to even picks the integer within a half, or the even one of two at a half. -/
theorem round_up (y : ℝ) (k : ℕ) (h0 : (k : ℝ) - 1 / 2 < y) (h1 : y ≤ k + 1 / 2) (ht : y = k + 1 / 2 → Even k) :
    Ideal.roundHalfEven y = k := by
  unfold Ideal.roundHalfEven
  by_cases h : y < k
  · have hf : ⌊y⌋ = (k : ℤ) - 1 := by
      rw [Int.floor_eq_iff]; push_cast; constructor <;> linarith
    simp only [hf]; push_cast
    rw [if_neg (by linarith), if_pos (by linarith)]; ring
  · push Not at h
    have hf : ⌊y⌋ = (k : ℤ) := by
      rw [Int.floor_eq_iff]; push_cast; constructor <;> linarith
    simp only [hf]; push_cast
    by_cases e : y = k + 1 / 2
    · rw [if_neg (by linarith), if_neg (by linarith), if_pos (by exact_mod_cast ht e)]
    · rw [if_pos (by have := lt_of_le_of_ne h1 e; linarith)]

/-- The same of the negated number. -/
theorem round_down (y : ℝ) (k : ℕ) (h0 : (k : ℝ) - 1 / 2 < y) (h1 : y ≤ k + 1 / 2) (ht : y = k + 1 / 2 → Even k) :
    Ideal.roundHalfEven (-y) = -k := by
  unfold Ideal.roundHalfEven
  by_cases h : y ≤ k
  · have hf : ⌊-y⌋ = -(k : ℤ) := by
      rw [Int.floor_eq_iff]; push_cast; constructor <;> linarith
    simp only [hf]; push_cast
    rw [if_pos (by linarith)]
  · push Not at h
    have hf : ⌊-y⌋ = -(k : ℤ) - 1 := by
      rw [Int.floor_eq_iff]; push_cast; constructor <;> linarith
    simp only [hf]; push_cast
    by_cases e : y = k + 1 / 2
    · have ho : ¬ Even (-(k : ℤ) - 1) := by
        have := ht e
        rw [Int.even_sub_one, not_not, even_neg]; exact_mod_cast this
      rw [if_neg (by linarith), if_neg (by linarith), if_neg ho]; ring
    · rw [if_neg (by linarith), if_pos (by have := lt_of_le_of_ne h1 e; linarith)]; ring

/-- A half-step that is not 3/2, 7/2 or 11/2 lies above an even integer. -/
theorem even_of_half (y : ℝ) (k : ℕ) (hk : k < 8) (hy : y ≤ 7) (h1 : y ≠ 3 / 2) (h3 : y ≠ 7 / 2) (h5 : y ≠ 11 / 2)
    (e : y = k + 1 / 2) : Even k := by
  interval_cases k
  · decide
  · exact absurd (by rw [e]; norm_num) h1
  · decide
  · exact absurd (by rw [e]; norm_num) h3
  · decide
  · exact absurd (by rw [e]; norm_num) h5
  · decide
  · exfalso; rw [e] at hy; norm_num at hy

/-- Real numbers: rounding seven times the clipped quotient, against the first nearest seventh with the sign. -/
theorem round_clip (q : ℝ) (k : ℕ) (h1 : |q| * 7 ≠ 3 / 2) (h3 : |q| * 7 ≠ 7 / 2) (h5 : |q| * 7 ≠ 11 / 2)
    (hk : FirstNearest ((|min 1 (max (-1) q)| : ℝ) : EReal) k) :
    (Ideal.roundHalfEven (min 7 (max (-7) (7 * q))) : ℝ) = k * SignType.sign (min 1 (max (-1) q)) := by
  set c := min 1 (max (-1) q) with hc
  have hc1 : -1 ≤ c := le_min (by norm_num) (le_max_left _ _)
  have hc2 : c ≤ 1 := min_le_left _ _
  have h7 : min 7 (max (-7) (7 * q)) = 7 * c := by
    rw [hc, mul_min_of_nonneg _ _ (by norm_num : (0:ℝ) ≤ 7), mul_max_of_nonneg _ _ (by norm_num : (0:ℝ) ≤ 7)]
    norm_num
  rw [h7]
  have ha : |c| ≤ 1 := abs_le.mpr ⟨hc1, hc2⟩
  obtain ⟨hk8, hl, hu⟩ := between _ (abs_nonneg c) ha k hk
  have hq : |c| * 7 < 7 → |c| = |q| := by
    intro h
    have hlt : |c| < 1 := by linarith
    have h2 := abs_lt.mp hlt
    have : c = q := by
      rw [hc] at h2 ⊢
      rcases le_total q (-1) with h' | h'
      · rw [max_eq_left h'] at h2; exfalso
        have := h2.1; rw [min_eq_right (by norm_num)] at this; exact lt_irrefl _ this
      · rw [max_eq_right h'] at h2 ⊢
        rcases le_total q 1 with h'' | h''
        · exact min_eq_right h''
        · rw [min_eq_left h''] at h2; exact absurd h2.2 (lt_irrefl _)
    rw [this]
  have hne : ∀ z : ℝ, z < 7 → |q| * 7 ≠ z → |c| * 7 ≠ z := fun z hz h e => h (by rw [← hq (by rw [e]; exact hz)]; exact e)
  have ht := even_of_half (|c| * 7) k hk8 (by linarith) (hne _ (by norm_num) h1) (hne _ (by norm_num) h3) (hne _ (by norm_num) h5)
  rcases lt_trichotomy c 0 with h | h | h
  · have e : 7 * c = -(|c| * 7) := by rw [abs_of_neg h]; ring
    rw [e, round_down _ k hl hu ht, sign_neg h]; push_cast; simp
  · rw [h]
    have : Ideal.roundHalfEven (7 * 0) = 0 := by
      unfold Ideal.roundHalfEven; simp
    rw [this, sign_zero]; simp
  · have e : 7 * c = |c| * 7 := by rw [abs_of_pos h]; ring
    rw [e, round_up _ k hl hu ht, sign_pos h]; push_cast; simp

/-! ## The two formulas -/

/-- The kernel's formula for one element, from the two sums, the weight and the scale. -/
def kerMean (s : EReal) : EReal := Ideal.div s (cnt : EReal)

/-- The kernel's multiplier, from the two sums and the scale. -/
def kerMul (s t a : EReal) : EReal :=
  Ideal.div ((7 : ℝ) : EReal)
    (Ideal.sqrt (Ideal.div (t - (cnt : EReal) * kerMean s * kerMean s) ((cnt - 1 : ℝ) : EReal)) * a)

/-- The kernel's formula for one element. -/
def kerAt (s t x a : EReal) : EReal :=
  Ideal.liftRound Ideal.roundHalfEven
      (min ((7 : ℝ) : EReal) (max ((-7 : ℝ) : EReal) (x * kerMul s t a + (0 - kerMean s) * kerMul s t a)))
    * (a * ((1 / 7 : ℝ) : EReal))

variable {ι : Type} [Fintype ι]

/-- The reference's standard deviation. -/
def stdOf (w : ι → EReal) : EReal :=
  Ideal.sqrt (Ideal.div (∑ i, (w i - kerMean (∑ i, w i)) * (w i - kerMean (∑ i, w i))) ((cnt - 1 : ℝ) : EReal))

/-- The reference's normalised weight over the scale. -/
def quotOf (w : ι → EReal) (a : EReal) (i : ι) : EReal :=
  Ideal.div (Ideal.div (w i - kerMean (∑ i, w i)) (stdOf w)) a

/-- Clipping to [-1, 1]. -/
def clip (q : EReal) : EReal := min ((1 : ℝ) : EReal) (max ((-1 : ℝ) : EReal) q)

/-- The reference's formula for one element, the seventh picked being the `k`-th. -/
def refAt (w : ι → EReal) (a : EReal) (i : ι) (k : ℕ) : EReal :=
  ((k / 7 : ℝ) : EReal) * Ideal.sign (clip (quotOf w a i)) * a

/-! ## Sums -/

/-- A sum of real numbers taken on the extended reals is the real sum. -/
theorem sum_real (v : ι → ℝ) (s : Finset ι) : ∑ i ∈ s, ((v i : ℝ) : EReal) = ((∑ i ∈ s, v i : ℝ) : EReal) := by
  classical
  induction s using Finset.induction_on with
  | empty => simp
  | insert i s hi ih => rw [Finset.sum_insert hi, Finset.sum_insert hi, ih, EReal.coe_add]

/-- A sum with a term −∞ is −∞. -/
theorem sum_bot (f : ι → EReal) (i : ι) (h : f i = ⊥) : ∑ i, f i = ⊥ := by
  classical
  rw [← Finset.add_sum_erase _ _ (Finset.mem_univ i), h, EReal.bot_add]

/-- A sum with a term ∞ and no term −∞ is ∞. -/
theorem sum_top (f : ι → EReal) (hb : ∀ i, f i ≠ ⊥) (i : ι) (h : f i = ⊤) : ∑ i, f i = ⊤ := by
  classical
  rw [← Finset.add_sum_erase _ _ (Finset.mem_univ i), h]
  refine EReal.top_add_of_ne_bot ?_
  induction (Finset.univ.erase i) using Finset.induction_on with
  | empty => simp
  | insert j s hj ih =>
    rw [Finset.sum_insert hj, Ne, EReal.add_eq_bot_iff]
    exact fun h => h.elim (hb j) ih

/-! ## The corners -/

/-- The number of elements is positive. -/
theorem cnt_pos : (0 : ℝ) < cnt := by unfold cnt; norm_num
/-- The number of elements less one is positive. -/
theorem cnt_pred_pos : (0 : ℝ) < cnt - 1 := by unfold cnt; norm_num

/-- Dividing by a positive real is multiplying by its inverse. -/
theorem div_pos_coe (x : EReal) (r : ℝ) (hr : 0 < r) : Ideal.div x (r : EReal) = x * ((r⁻¹ : ℝ) : EReal) := by
  unfold Ideal.div
  rw [if_neg (by exact_mod_cast hr.ne'), EReal.coe_inv]

/-- The quotient of two reals, the second not zero, is the real quotient. -/
theorem div_coe_coe (x r : ℝ) (hr : r ≠ 0) : Ideal.div (x : EReal) (r : EReal) = ((x / r : ℝ) : EReal) := by
  unfold Ideal.div
  rw [if_neg (by exact_mod_cast hr), ← EReal.coe_inv, ← EReal.coe_mul, div_eq_mul_inv]

/-- Dividing by an infinite number gives zero. -/
theorem div_infinite (x z : EReal) (hz : z = ⊤ ∨ z = ⊥) : Ideal.div x z = 0 := by
  unfold Ideal.div
  rcases hz with rfl | rfl
  · rw [if_neg (by decide), EReal.inv_top, mul_zero]
  · rw [if_neg (by decide), EReal.inv_bot, mul_zero]

/-- Zero divided by anything but zero is zero. -/
theorem div_zero_left (a : EReal) (ha : a ≠ 0) : Ideal.div 0 a = 0 := by
  unfold Ideal.div; rw [if_neg ha, zero_mul]

/-- Clipping zero gives zero. -/
theorem clip_zero : clip 0 = 0 := by
  unfold clip
  rw [max_eq_right (by exact_mod_cast (by norm_num : (-1 : ℝ) ≤ 0)), min_eq_right (by exact_mod_cast (by norm_num : (0 : ℝ) ≤ 1))]

/-- Clipping a real number is clipping it among the reals. -/
theorem clip_coe (q : ℝ) : clip (q : EReal) = ((min 1 (max (-1) q) : ℝ) : EReal) := by
  unfold clip
  rw [EReal.coe_strictMono.monotone.map_min, EReal.coe_strictMono.monotone.map_max]

/-- Where the quotient is zero the reference's element is zero. -/
theorem refAt_zero (w : ι → EReal) (a : EReal) (i : ι) (k : ℕ) (h : quotOf w a i = 0) : refAt w a i k = 0 := by
  unfold refAt
  rw [h, clip_zero, Ideal.sign_zero, mul_zero, zero_mul]

/-- Where the multiplier is zero the kernel's element is zero. -/
theorem kerAt_zero (s t x a : EReal) (h : kerMul s t a = 0) : kerAt s t x a = 0 := by
  unfold kerAt
  rw [h, mul_zero, mul_zero, add_zero]
  rw [max_eq_right (by exact_mod_cast (by norm_num : (-7 : ℝ) ≤ 0)), min_eq_right (by exact_mod_cast (by norm_num : (0 : ℝ) ≤ 7))]
  have : Ideal.liftRound Ideal.roundHalfEven 0 = 0 := by
    show ((Ideal.roundHalfEven 0 : ℝ) : EReal) = 0
    have : Ideal.roundHalfEven 0 = 0 := by unfold Ideal.roundHalfEven; simp
    rw [this]; simp
  rw [this, zero_mul]

/-! ## An infinite weight -/

/-- With an infinite weight the mean is infinite. -/
theorem mean_infinite (w : ι → EReal) (h : ∃ i, w i = ⊤ ∨ w i = ⊥) :
    kerMean (∑ i, w i) = ⊤ ∨ kerMean (∑ i, w i) = ⊥ := by
  unfold kerMean
  rw [div_pos_coe _ _ cnt_pos]
  have hp : (0 : ℝ) < cnt⁻¹ := inv_pos.mpr cnt_pos
  by_cases hb : ∃ i, w i = ⊥
  · obtain ⟨i, hi⟩ := hb
    rw [sum_bot w i hi]; exact .inr (EReal.bot_mul_coe_of_pos hp)
  · push Not at hb
    obtain ⟨i, hi⟩ := h
    rw [sum_top w hb i (hi.resolve_right (hb i))]; exact .inl (EReal.top_mul_coe_of_pos hp)

/-- A square is never −∞. -/
theorem square_ne_bot (x : EReal) : x * x ≠ ⊥ := by
  induction x with
  | bot => simp
  | top => simp
  | coe r => rw [← EReal.coe_mul]; exact EReal.coe_ne_bot _

/-- The square of an infinite number is ∞. -/
theorem square_infinite (x : EReal) (h : x = ⊤ ∨ x = ⊥) : x * x = ⊤ := by
  rcases h with rfl | rfl <;> simp

/-- Subtracting an infinite number gives an infinite number. -/
theorem off_infinite (x y : EReal) (h : y = ⊤ ∨ y = ⊥) : x - y = ⊤ ∨ x - y = ⊥ := by
  rcases h with rfl | rfl
  · right; rw [sub_eq_add_neg, EReal.neg_top, EReal.add_bot]
  · rw [sub_eq_add_neg, EReal.neg_bot]
    induction x with
    | bot => right; simp
    | top => left; simp
    | coe r => left; simp

/-- With an infinite weight the standard deviation is ∞. -/
theorem std_infinite (w : ι → EReal) (h : ∃ i, w i = ⊤ ∨ w i = ⊥) : stdOf w = ⊤ := by
  have hm := mean_infinite w h
  obtain ⟨i, -⟩ := h
  unfold stdOf
  rw [sum_top (fun j => (w j - kerMean (∑ i, w i)) * (w j - kerMean (∑ i, w i))) (fun j => square_ne_bot _) i
    (square_infinite _ (off_infinite _ _ hm)), div_pos_coe _ _ cnt_pred_pos,
    EReal.top_mul_coe_of_pos (inv_pos.mpr cnt_pred_pos)]
  rfl

/-- With an infinite weight and a scale that isn't zero, the kernel's multiplier is zero. -/
theorem mul_infinite (w : ι → EReal) (h : ∃ i, w i = ⊤ ∨ w i = ⊥) (a : EReal) (ha : a ≠ 0) :
    kerMul (∑ i, w i) (∑ i, w i * w i) a = 0 := by
  have hm := mean_infinite w h
  obtain ⟨i, hi⟩ := h
  unfold kerMul
  apply div_infinite
  rw [sum_top (fun j => w j * w j) (fun j => square_ne_bot _) i (square_infinite _ hi)]
  have e : (cnt : EReal) * kerMean (∑ i, w i) * kerMean (∑ i, w i) = ⊤ := by
    rcases hm with e | e <;> rw [e]
    · rw [EReal.coe_mul_top_of_pos cnt_pos, EReal.top_mul_top]
    · rw [EReal.coe_mul_bot_of_pos cnt_pos, EReal.bot_mul_bot]
  rw [e, sub_eq_add_neg, EReal.neg_top, EReal.add_bot, div_pos_coe _ _ cnt_pred_pos,
    EReal.bot_mul_coe_of_pos (inv_pos.mpr cnt_pred_pos)]
  show ⊥ * a = ⊤ ∨ ⊥ * a = ⊥
  induction a with
  | bot => left; simp
  | top => right; simp
  | coe r =>
    rcases lt_trichotomy r 0 with h | h | h
    · left; exact EReal.bot_mul_coe_of_neg h
    · exact absurd (by rw [h]; rfl) ha
    · right; exact EReal.bot_mul_coe_of_pos h

/-! ## Finite weights -/

/-- The sum of the squared deviations from the mean is the sum of the squares less the count times the squared mean. -/
theorem variance_identity (v : ι → ℝ) (hc : (Fintype.card ι : ℝ) = cnt) :
    ∑ i, (v i - (∑ i, v i) / cnt) * (v i - (∑ i, v i) / cnt)
      = ∑ i, v i * v i - cnt * ((∑ i, v i) / cnt) * ((∑ i, v i) / cnt) := by
  set μ := (∑ i, v i) / cnt with hμ
  have hs : ∑ i, v i = cnt * μ := by rw [hμ]; field_simp [cnt_pos.ne']
  have : ∀ i, (v i - μ) * (v i - μ) = v i * v i - 2 * μ * v i + μ * μ := fun i => by ring
  simp only [this]
  rw [Finset.sum_add_distrib, Finset.sum_sub_distrib, ← Finset.mul_sum, hs, Finset.sum_const, Finset.card_univ,
    nsmul_eq_mul, hc]
  ring

/-- THE ALGEBRA: for finitely many extended reals, as many as the divisor says, of positive spread, at a place where
    seven times the quotient's magnitude is none of 3/2, 7/2, 11/2, the two formulas agree. -/
theorem formulas_agree (w : ι → EReal) (hc : (Fintype.card ι : ℝ) = cnt) (a : EReal) (i : ι) (k : ℕ)
    (hstd : 0 < stdOf w)
    (h1 : max (quotOf w a i) (-quotOf w a i) * ((7 : ℝ) : EReal) ≠ ((3 / 2 : ℝ) : EReal))
    (h3 : max (quotOf w a i) (-quotOf w a i) * ((7 : ℝ) : EReal) ≠ ((7 / 2 : ℝ) : EReal))
    (h5 : max (quotOf w a i) (-quotOf w a i) * ((7 : ℝ) : EReal) ≠ ((11 / 2 : ℝ) : EReal))
    (hk : FirstNearest (max (clip (quotOf w a i)) (-clip (quotOf w a i))) k) :
    kerAt (∑ i, w i) (∑ i, w i * w i) (w i) a = refAt w a i k := by
  by_cases ha : a = 0
  · subst ha; unfold kerAt refAt; rw [zero_mul, mul_zero, mul_zero]
  by_cases hi : ∃ i, w i = ⊤ ∨ w i = ⊥
  · rw [kerAt_zero _ _ _ _ (mul_infinite w hi a ha), refAt_zero]
    unfold quotOf
    rw [std_infinite w hi, div_infinite _ _ (.inl rfl), div_zero_left _ ha]
  push Not at hi
  obtain ⟨v, rfl⟩ : ∃ v : ι → ℝ, w = fun i => ((v i : ℝ) : EReal) :=
    ⟨fun i => (w i).toReal, funext fun i => (EReal.coe_toReal (hi i).1 (hi i).2).symm⟩
  set μ := (∑ i, v i) / cnt with hμ
  have em : kerMean (∑ i, ((v i : ℝ) : EReal)) = (μ : EReal) := by
    unfold kerMean; rw [sum_real, div_coe_coe _ _ cnt_pos.ne']
  set s2 := (∑ i, (v i - μ) * (v i - μ)) / (cnt - 1) with hs2
  have es : stdOf (fun i => ((v i : ℝ) : EReal)) = Ideal.sqrt (s2 : EReal) := by
    unfold stdOf; rw [em]
    simp only [← EReal.coe_sub, ← EReal.coe_mul]
    rw [sum_real, div_coe_coe _ _ cnt_pred_pos.ne']
  have hnn : 0 ≤ s2 := div_nonneg (Finset.sum_nonneg fun i _ => mul_self_nonneg _) cnt_pred_pos.le
  have es' : Ideal.sqrt (s2 : EReal) = ((Real.sqrt s2 : ℝ) : EReal) := by
    show (if s2 < 0 then ⊥ else ((Real.sqrt s2 : ℝ) : EReal)) = _
    rw [if_neg (not_lt.mpr hnn)]
  set σ := Real.sqrt s2 with hσ
  rw [es'] at es
  have hpos : 0 < σ := by rw [es] at hstd; exact_mod_cast hstd
  have ek : Ideal.sqrt (Ideal.div (∑ i, ((v i : ℝ) : EReal) * ((v i : ℝ) : EReal)
      - (cnt : EReal) * (μ : EReal) * (μ : EReal)) ((cnt - 1 : ℝ) : EReal)) = (σ : EReal) := by
    simp only [← EReal.coe_mul]
    rw [sum_real, ← EReal.coe_sub, div_coe_coe _ _ cnt_pred_pos.ne', hμ, ← variance_identity v hc, ← hμ, ← hs2, es']
  have eq0 : quotOf (fun i => ((v i : ℝ) : EReal)) a i = Ideal.div (((v i - μ) / σ : ℝ) : EReal) a := by
    unfold quotOf; rw [es, em, ← EReal.coe_sub, div_coe_coe _ _ hpos.ne']
  have hA : kerMul (∑ i, ((v i : ℝ) : EReal)) (∑ i, ((v i : ℝ) : EReal) * ((v i : ℝ) : EReal)) a
      = Ideal.div ((7 : ℝ) : EReal) ((σ : EReal) * a) := by
    unfold kerMul; rw [em, ek]
  by_cases hinf : a = ⊤ ∨ a = ⊥
  · rw [refAt_zero _ _ _ _ (by rw [eq0, div_infinite _ _ hinf]), kerAt_zero]
    rw [hA, div_infinite]
    rcases hinf with rfl | rfl
    · exact .inl (EReal.coe_mul_top_of_pos hpos)
    · exact .inr (EReal.coe_mul_bot_of_pos hpos)
  push Not at hinf
  obtain ⟨α, rfl⟩ : ∃ α : ℝ, a = (α : EReal) := ⟨a.toReal, (EReal.coe_toReal hinf.1 hinf.2).symm⟩
  have hα : α ≠ 0 := fun h => ha (by rw [h]; rfl)
  set q := (v i - μ) / σ / α with hq
  have eq1 : quotOf (fun i => ((v i : ℝ) : EReal)) (α : EReal) i = (q : EReal) := by
    rw [eq0, div_coe_coe _ _ hα]
  have habs : ∀ r : ℝ, max (r : EReal) (-(r : EReal)) = ((|r| : ℝ) : EReal) := fun r => by
    rw [← EReal.coe_neg, ← EReal.coe_strictMono.monotone.map_max]; rfl
  rw [eq1, habs, ← EReal.coe_mul, Ne, EReal.coe_eq_coe_iff] at h1 h3 h5
  rw [eq1, clip_coe, habs] at hk
  have hr := round_clip q k h1 h3 h5 hk
  unfold kerAt refAt
  rw [eq1, clip_coe, hA, em, ← EReal.coe_mul, div_coe_coe _ _ (mul_ne_zero hpos.ne' hα)]
  rw [show (0 : EReal) - (μ : EReal) = ((0 - μ : ℝ) : EReal) by rw [EReal.coe_sub]; rfl]
  rw [← EReal.coe_mul, ← EReal.coe_mul, ← EReal.coe_add, ← EReal.coe_strictMono.monotone.map_max,
    ← EReal.coe_strictMono.monotone.map_min]
  have e7 : v i * (7 / (σ * α)) + (0 - μ) * (7 / (σ * α)) = 7 * q := by
    rw [hq]; field_simp; ring
  rw [e7]
  show ((Ideal.roundHalfEven (min 7 (max (-7) (7 * q))) : ℝ) : EReal) * _ = _
  rw [hr]
  have hsg : Ideal.sign ((min 1 (max (-1) q) : ℝ) : EReal) = ((SignType.sign (min 1 (max (-1) q)) : ℝ) : EReal) := rfl
  rw [hsg, ← EReal.coe_mul, ← EReal.coe_mul, ← EReal.coe_mul, ← EReal.coe_mul, EReal.coe_eq_coe_iff]
  ring

end Cert.Hand

end

end
-- ==== Proof.KerAt.lean ====
/- The kernel's result read one element at a time: the two accumulators are the sums of all weights and of all their
   squares, and each element is the plain formula `kerAt` of those sums, its weight and the scale. -/
module

public import proofs.«01_k».proof.Proof.KRun
public import proofs.«01_k».proof.Proof.Algebra
public import Idealize.ShloMosaic.PureOps.Ideal.Laws
public import Idealize.ShloMosaic.Lib.ValueIdx

@[expose] public section

noncomputable section

namespace Cert.Hand

open Idealize.ShloMosaic
open Cert.KernelIdeal Cert.KernelIdeal.Gen

/-! ## The constants -/

/-- The pattern 0x4A800000 is the number of elements. -/
theorem bits_cnt : Ideal.ofBits .f32 0x4A800000#32 = ((cnt : ℝ) : EReal) := by
  unfold cnt; simp [Ideal.ofBits, Ideal.ieee]; rw [← EReal.coe_mul]; norm_num
/-- The pattern 0x4A7FFFFC is the number of elements less one. -/
theorem bits_cnt_pred : Ideal.ofBits .f32 0x4A7FFFFC#32 = ((cnt - 1 : ℝ) : EReal) := by
  unfold cnt; simp [Ideal.ofBits, Ideal.ieee, -EReal.coe_sub]; norm_num; rw [← EReal.coe_mul]; norm_num
/-- The pattern 0x40E00000 is 7. -/
theorem bits_seven : Ideal.ofBits .f32 0x40E00000#32 = ((7 : ℝ) : EReal) := by
  simp [Ideal.ofBits, Ideal.ieee]; rw [← EReal.coe_mul]; norm_num
/-- The pattern 0xC0E00000 is −7. -/
theorem bits_neg_seven : Ideal.ofBits .f32 0xC0E00000#32 = ((-7 : ℝ) : EReal) := by
  simp [Ideal.ofBits, Ideal.ieee, -EReal.coe_neg]; norm_num
/-- The named constant "seventh" is 1/7. -/
theorem named_seventh : (Named.named κ "seventh" (0x3E124925#32 : BitVec 32) : Ideal .f32) = ((1 / 7 : ℝ) : EReal) := rfl

/-! ## The sums -/

/-- What a row block adds to the first accumulator: the sum of its words. -/
theorem pay1_sum (v : Vec Ideal S512x2048 .f32) (s : EReal) :
    (k0_pay1 v s : EReal) = s + ∑ z : S512x2048.Idx, (v z : EReal) := by
  have e : ∀ j : S1.Idx, (multiReduction (F := Ideal) (φ := .f32) .add [1, 2] S1 (shapeCast S1x512x2048 v shapeCasts_S512x2048_S1x512x2048)
      0x00000000#32 reduces_S1x512x2048_S1 (.inl rfl) rfl j : EReal)
      = ∑ i : S1x512x2048.Idx, (shapeCast S1x512x2048 v shapeCasts_S512x2048_S1x512x2048 i : EReal) :=
    fun j => Ideal.multiReduction_add_total _ _ _ (by decide) _ _ j
  refine (congrArg (s + ·) (e _)).trans ?_
  exact congrArg (s + ·) (Equiv.sum_comp (Shape.reshapeEquiv shapeCasts_S512x2048_S1x512x2048) (fun z => (v z : EReal)))

/-- What a row block adds to the second accumulator: the sum of its words' squares. -/
theorem pay2_sum (v : Vec Ideal S512x2048 .f32) (s : EReal) :
    (k0_pay2 v s : EReal) = s + ∑ z : S512x2048.Idx, (v z : EReal) * (v z : EReal) :=
  pay1_sum (fun z => (v z : EReal) * (v z : EReal)) s

/-- Four row blocks make up the array: a block's number and a place in it, for a place in the array. -/
def blocks : Fin 4 × S512x2048.Idx ≃ S2048x2048.Idx where
  toFun p := Shape.pair ⟨(512 * p.1.val + (p.2 0).val) % 2048, Nat.mod_lt _ (by decide)⟩ (p.2 1)
  invFun y := (⟨(y 0).val / 512, by have : (y 0).val < 2048 := (y 0).isLt; omega⟩,
    Shape.pair ⟨(y 0).val % 512, Nat.mod_lt _ (by decide)⟩ (y 1))
  left_inv p := by
    obtain ⟨n, z⟩ := p
    have hz : (z 0).val < 512 := (z 0).isLt
    have e : (512 * n.val + (z 0).val) % 2048 = 512 * n.val + (z 0).val := Nat.mod_eq_of_lt (by omega)
    refine Prod.ext (Fin.ext ?_) ?_
    · show (512 * n.val + (z 0).val) % 2048 / 512 = n.val
      omega
    · refine Eq.trans ?_ (Shape.pair_eta z)
      show Shape.pair ⟨(512 * n.val + (z 0).val) % 2048 % 512, _⟩ (z 1) = _
      have e2 : (512 * n.val + (z 0).val) % 2048 % 512 = (z 0).val := by omega
      simp only [e2]
  right_inv y := by
    have hy : (y 0).val < 2048 := (y 0).isLt
    refine Eq.trans ?_ (Shape.pair_eta y)
    show Shape.pair ⟨(512 * ((y 0).val / 512) + (y 0).val % 512) % 2048, _⟩ (y 1) = _
    have e : (512 * ((y 0).val / 512) + (y 0).val % 512) % 2048 = (y 0).val := by omega
    simp only [e]

/-- Summing over the four row blocks in turn is summing over the array. -/
theorem sum_blocks (f : S2048x2048.Idx → EReal) :
    (((0 + ∑ z, f (blocks (0, z))) + ∑ z, f (blocks (1, z))) + ∑ z, f (blocks (2, z))) + ∑ z, f (blocks (3, z))
      = ∑ y, f y := by
  rw [zero_add, ← Equiv.sum_comp blocks, Fintype.sum_prod_type, Fin.sum_univ_four]

/-- The accumulators start from zero. -/
theorem zeroWord_eq : (zeroWord : EReal) = 0 := Ideal.ofBits_zero_f32

/-- After the filling pass the first accumulator is the sum of all weights. -/
theorem sumUpto_four (w : Vec Ideal S2048x2048 .f32) : (sumUpto w 4 : EReal) = ∑ y, (w y : EReal) := by
  rw [← sum_blocks]
  simp only [sumUpto, pay1_sum, zeroWord_eq]
  rfl

/-- After the filling pass the second accumulator is the sum of all squared weights. -/
theorem sqUpto_four (w : Vec Ideal S2048x2048 .f32) : (sqUpto w 4 : EReal) = ∑ y, (w y : EReal) * (w y : EReal) := by
  rw [← sum_blocks]
  simp only [sqUpto, pay2_sum, zeroWord_eq]
  rfl

/-! ## One element -/

/-- The emitting computation at one place is the plain formula. -/
theorem pay4_apply (s t a : EReal) (v : Vec Ideal S512x2048 .f32) (z : S512x2048.Idx) :
    (k0_pay4 (F := Ideal) s t a a v z : EReal) = kerAt s t (v z) a := by
  have e : (k0_pay4 (F := Ideal) s t a a v z : EReal)
      = Ideal.liftRound Ideal.roundHalfEven
          (min (Ideal.ofBits .f32 0x40E00000#32) (max (Ideal.ofBits .f32 0xC0E00000#32)
            (v z * Ideal.div (Ideal.ofBits .f32 0x40E00000#32)
                (Ideal.sqrt (Ideal.div (t - Ideal.ofBits .f32 0x4A800000#32 * Ideal.div s (Ideal.ofBits .f32 0x4A800000#32)
                  * Ideal.div s (Ideal.ofBits .f32 0x4A800000#32)) (Ideal.ofBits .f32 0x4A7FFFFC#32)) * a)
              + (Ideal.ofBits .f32 0x00000000#32 - Ideal.div s (Ideal.ofBits .f32 0x4A800000#32))
                * Ideal.div (Ideal.ofBits .f32 0x40E00000#32)
                (Ideal.sqrt (Ideal.div (t - Ideal.ofBits .f32 0x4A800000#32 * Ideal.div s (Ideal.ofBits .f32 0x4A800000#32)
                  * Ideal.div s (Ideal.ofBits .f32 0x4A800000#32)) (Ideal.ofBits .f32 0x4A7FFFFC#32)) * a))))
        * (a * (Named.named κ "seventh" (0x3E124925#32 : BitVec 32) : Ideal .f32)) := rfl
  rw [e, named_seventh, bits_cnt, bits_cnt_pred, bits_seven, bits_neg_seven, Ideal.ofBits_zero_f32]
  rfl

/-- THE KERNEL'S ELEMENT: the plain formula of the two whole sums, the weight at that place and the scale. -/
theorem kerOut_apply (w : Vec Ideal S2048x2048 .f32) (a : EReal) (y : S2048x2048.Idx) :
    (kerOut w a y : EReal) = kerAt (∑ y, (w y : EReal)) (∑ y, (w y : EReal) * (w y : EReal)) (w y) a := by
  unfold kerOut
  rw [pay4_apply, sumUpto_four, sqUpto_four]
  exact congrArg (fun u => kerAt _ _ (w u) a) (blocks.right_inv y)

end Cert.Hand
-- ==== Proof.RefRun.lean ====
/- The reference's run: what `quantised` holds at the end of the reference program, as one pure function of its two
   arguments, built stage by stage in reference.py's order; and the run itself, with every counter at zero. -/
module

public import proofs.«01_k».proof.Defs
public import proofs.«01_k».proof.Proof.Gen.ReferenceIdeal
public import Idealize.ShloMosaic.Adequacy
public import Idealize.ShloMosaic.Init
public import Idealize.ShloMosaic.Lib.Claim
public import Idealize.ShloMosaic.Lib.Quiescent

@[expose] public section

noncomputable section

namespace Cert.Hand

open Idealize.ShloMosaic Idealize.SL.Sem
open Cert.ReferenceIdeal Cert.ReferenceIdeal.Facts₀

/-- The mean of all weights. -/
def refMean (w : FVec Ideal S2048x2048 .f32) : FVec Ideal S_ .f32 :=
  Host.divf (Host.reduceAdd w (constant S_ .f32 0x00000000#32) reducesTo_S2048x2048_S_d0_1 h_S_)
    (constant S_ .f32 0x4A800000#32)

/-- What each weight lies off the mean, as the variance computes it. -/
def refOff (w : FVec Ideal S2048x2048 .f32) : FVec Ideal S2048x2048 .f32 :=
  subf w (broadcastInDim S2048x2048 ![0, 1] bcast_S1x1_S2048x2048_0_1
    (Host.divf (broadcastInDim S1x1 ![] bcast_S_S1x1
        (Host.reduceAdd w (constant S_ .f32 0x00000000#32) reducesTo_S2048x2048_S_d0_1 h_S_))
      (broadcastInDim S1x1 ![] bcast_S_S1x1 (constant S_ .f32 0x4A800000#32))))

/-- The variance's divisor: the number of weights less one. -/
def refCount : FVec Ideal S_ .f32 :=
  subf (constant S_ .f32 0x4A800000#32) (sitofp .f32 (constantI S_ 32 1#32))

/-- The sample standard deviation of all weights. -/
def refStd (w : FVec Ideal S2048x2048 .f32) : FVec Ideal S_ .f32 :=
  Host.sqrt (select (cmpf .ogt refCount (constant S_ .f32 0x00000000#32))
    (Host.divf (Host.reduceAdd (mulf (refOff w) (refOff w)) (constant S_ .f32 0x00000000#32)
      reducesTo_S2048x2048_S_d0_1 h_S_) refCount)
    (constant S_ .f32 0x7FC00000#32))

/-- The normalised weights over `alpha`. -/
def refQuot (w : FVec Ideal S2048x2048 .f32) (a : FVec Ideal S_ .f32) : FVec Ideal S2048x2048 .f32 :=
  Host.divf
    (Host.divf (subf w (broadcastInDim S2048x2048 ![] bcast_S_S2048x2048 (refMean w)))
      (broadcastInDim S2048x2048 ![] bcast_S_S2048x2048 (refStd w)))
    (broadcastInDim S2048x2048 ![] bcast_S_S2048x2048 a)

/-- Clipped to [-1, 1]. -/
def refClip (x : FVec Ideal S2048x2048 .f32) : FVec Ideal S2048x2048 .f32 :=
  minimumf (broadcastInDim S2048x2048 ![] bcast_S_S2048x2048 (constant S_ .f32 0x3F800000#32))
    (maximumf (broadcastInDim S2048x2048 ![] bcast_S_S2048x2048 (constant S_ .f32 0xBF800000#32)) x)

/-- The first seven sevenths, 0 to 6/7. -/
def refSevenths : FVec Ideal S7 .f32 :=
  Host.divf (sitofp .f32 (iotaInDim S7 32 0))
    (broadcastInDim S7 ![] bcast_S_S7 (constant S_ .f32 0x40E00000#32))

/-- The grid of magnitudes: eight points from 0 to 1. -/
def refGrid : FVec Ideal S8 .f32 :=
  mulf (concatenate S8 0
      [⟨S7, addf
        (mulf (broadcastInDim S7 ![0] bcast_S1_S7_0 (shapeCast S1 (constant S_ .f32 0x00000000#32) shapeCasts_S_S1))
          (subf (broadcastInDim S7 ![] bcast_S_S7 (constant S_ .f32 0x3F800000#32)) refSevenths))
        (mulf (broadcastInDim S7 ![0] bcast_S1_S7_0 (shapeCast S1 (constant S_ .f32 0x3F800000#32) shapeCasts_S_S1))
          refSevenths)⟩,
       ⟨S1, broadcastInDim S1 ![] bcast_S_S1 (constant S_ .f32 0x3F800000#32)⟩] concatenates_S7_S1_S8_d0)
    (broadcastInDim S8 ![] bcast_S_S8 (constant S_ .f32 0x3F800000#32))

/-- How far each magnitude lies from each grid point. -/
def refDist (g : FVec Ideal S8 .f32) (x : FVec Ideal S2048x2048 .f32) : FVec Ideal S8x4194304 .f32 :=
  Host.absf (subf
    (broadcastInDim S8x4194304 ![0, 1] bcast_S1x4194304_S8x4194304_0_1
      (broadcastInDim S1x4194304 ![1] bcast_S4194304_S1x4194304_1
        (shapeCast S4194304 (Host.absf x) shapeCasts_S2048x2048_S4194304)))
    (broadcastInDim S8x4194304 ![0, 1] bcast_S8x1_S8x4194304_0_1
      (broadcastInDim S8x1 ![0] bcast_S8_S8x1_0 g)))

/-- The index of the nearest grid point, the first one on a tie. -/
def refArg (dist : FVec Ideal S8x4194304 .f32) : IVec S4194304 32 :=
  fun j => (Host.argReduce reducer_argmin_f32_i32 dist (iotaInDim S8x4194304 32 0) (constant S_ .f32 0x7F800000#32)
    (constantI S_ 32 0#32) reducesTo_S8x4194304_S4194304_d0 h_S_ j).2

/-- The grid point at each index, a negative index counted from the end. -/
def refPick (g : FVec Ideal S8 .f32) (k : IVec S4194304 32) : FVec Ideal S4194304 .f32 :=
  Host.gather gather_S8_S4194304x1_S4194304_n_0_n_n_0_1_1 g
    (broadcastInDim S4194304x1 ![0] bcast_S4194304_S4194304x1_0
      (select (cmpi .slt k (broadcastInDim S4194304 ![] bcast_S_S4194304 (constantI S_ 32 0#32)))
        (addi k (broadcastInDim S4194304 ![] bcast_S_S4194304 (constantI S_ 32 8#32))) k))

/-- The reference's result. -/
def refOut (w : FVec Ideal S2048x2048 .f32) (a : FVec Ideal S_ .f32) : FVec Ideal S2048x2048 .f32 :=
  mulf (mulf
      (shapeCast S2048x2048 (refPick refGrid (refArg (refDist refGrid (refClip (refQuot w a))))) shapeCasts_S4194304_S2048x2048)
      (Host.sign (refClip (refQuot w a))))
    (broadcastInDim S2048x2048 ![] bcast_S_S2048x2048 a)

/-- The reference runs, leaves `refOut` of its arguments in its result and its arguments as they were. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v33)
          = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  simp -implicitDefEqProofs only [StableHlo.TRef.toBuf, StableHlo.TRef.ofBuf, cast_cast, cast_eq]
  rfl

/-- The reference's frame: it runs, its arguments end unchanged, every counter ends at zero. -/
theorem reference_frame : Cert.quiescent_ReferenceIdeal := fun m g _ =>
  θ_run_mono (reference_run m g) fun _ h =>
    ⟨fun c => (h c).2, sem_eq_zero_of_no_sems (by decide) _⟩

end Cert.Hand

end

end
-- ==== Proof.RefNearest.lean ====
/- The reference's rounding read one element at a time: its grid's points are the sevenths, its arg-min is the first
   index of least distance, and what it gathers is the grid point at that index. -/
module

public import proofs.«01_k».proof.Proof.RefRun
public import proofs.«01_k».proof.Proof.Algebra
public import Idealize.ShloMosaic.PureOps.Reduce
public import Idealize.ShloMosaic.PureOps.Ideal.Laws
public import Idealize.ShloMosaic.Lib.IdealHost
public import Idealize.ShloMosaic.Lib.Pipeline.Value

@[expose] public section

noncomputable section

namespace Cert.Hand

open Idealize.ShloMosaic Idealize.ShloMosaic.ValueIdx
open Cert.ReferenceIdeal Cert.ReferenceIdeal.Facts₀

/-! ## The grid -/

/-- The pattern 0x40E00000 is 7. -/
theorem bits_seven_ref : Ideal.ofBits .f32 0x40E00000#32 = ((7 : ℝ) : EReal) := by
  simp [Ideal.ofBits, Ideal.ieee]; rw [← EReal.coe_mul]; norm_num

/-- The `r`-th of the seven sevenths below one. -/
theorem refSevenths_apply (r : Fin 7) : (refSevenths (ix1 r) : EReal) = ((r.val / 7 : ℝ) : EReal) := by
  have e : (refSevenths (ix1 r) : EReal)
      = Ideal.div ((((BitVec.ofNat 32 r.val).toInt : ℝ)) : EReal) (Ideal.ofBits .f32 0x40E00000#32) := rfl
  have h : (BitVec.ofNat 32 r.val).toInt = (r.val : ℤ) :=
    (by decide : ∀ r : Fin 7, (BitVec.ofNat 32 r.val).toInt = (r.val : ℤ)) r
  rw [e, bits_seven_ref, h, div_coe_coe _ _ (by norm_num)]
  norm_num

/-- The `r`-th of the grid's eight points is `r / 7`. -/
theorem refGrid_apply (r : Fin 8) : (refGrid (ix1 r) : EReal) = ((r.val / 7 : ℝ) : EReal) := by
  unfold refGrid
  refine (congrArg (_ * ·) Ideal.ofBits_one_f32).trans ((mul_one _).trans ?_)
  by_cases h : r.val < 7
  · rw [concatenate_pair_apply_left (s₁ := S7) (s₂ := S1) 0 _ _ concatenates_S7_S1_S8_d0 (ix1 r) rfl (ix1 ⟨r.val, h⟩)
      (fun b => by fin_cases b; rfl)]
    show Ideal.ofBits .f32 0x00000000#32 * (Ideal.ofBits .f32 0x3F800000#32 - refSevenths (ix1 ⟨r.val, h⟩))
      + Ideal.ofBits .f32 0x3F800000#32 * refSevenths (ix1 ⟨r.val, h⟩) = _
    rw [Ideal.ofBits_one_f32, Ideal.ofBits_zero_f32, zero_mul, zero_add, one_mul]
    exact refSevenths_apply ⟨r.val, h⟩
  · have h7 : r.val = 7 := by omega
    rw [concatenate_pair_apply_right (s₁ := S7) (s₂ := S1) 0 _ _ concatenates_S7_S1_S8_d0 (ix1 r) rfl rfl (ix1 0)
      (fun b hb => absurd (by fin_cases b; rfl) hb) (by show 0 + 7 = r.val; omega)]
    show Ideal.ofBits .f32 0x3F800000#32 = _
    rw [Ideal.ofBits_one_f32, h7]
    norm_num

/-! ## The arg-min -/

/-- `p` comes no later than `q`: a smaller value, or the same value at an index not greater. -/
def NoLater (p q : EReal × BitVec 32) : Prop := p.1 < q.1 ∨ (p.1 = q.1 ∧ p.2.toInt ≤ q.2.toInt)

/-- Every pair is no later than itself. -/
theorem NoLater.refl (p : EReal × BitVec 32) : NoLater p p := .inr ⟨rfl, le_rfl⟩

/-- "No later" passes on from pair to pair. -/
theorem NoLater.trans {p q r : EReal × BitVec 32} (h : NoLater p q) (h' : NoLater q r) : NoLater p r := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

/-- The reducer spelt by the order. -/
theorem reducer_eq (p q : EReal × BitVec 32) : reducer_argmin_f32_i32 (F := Ideal) p q
    = (if p.1 < q.1 then p.1 else q.1, if p.1 < q.1 ∨ (p.1 = q.1 ∧ p.2.slt q.2 = true) then p.2 else q.2) := by
  show (Scalar.select (IntOp.ori (BitVec.ofBool (decide (p.1 < q.1))) (BitVec.ofBool (decide (p.1 ≠ p.1)))) p.1 q.1,
      Scalar.select (IntOp.ori (IntOp.ori (BitVec.ofBool (decide (p.1 < q.1))) (BitVec.ofBool (decide (p.1 ≠ p.1))))
        (IntOp.andi (BitVec.ofBool (decide (p.1 = q.1))) (BitVec.ofBool (p.2.slt q.2)))) p.2 q.2) = _
  by_cases h1 : p.1 < q.1 <;> by_cases h2 : p.1 = q.1 <;> cases h3 : p.2.slt q.2 <;>
    simp [h1, h2, Scalar.select, IntOp.ori, IntOp.andi]

/-- The reducer returns one of its two operands, and that one comes no later than either. -/
theorem reducer_first (p q : EReal × BitVec 32) :
    (reducer_argmin_f32_i32 (F := Ideal) p q = p ∨ reducer_argmin_f32_i32 (F := Ideal) p q = q)
      ∧ NoLater (reducer_argmin_f32_i32 (F := Ideal) p q) p ∧ NoLater (reducer_argmin_f32_i32 (F := Ideal) p q) q := by
  rw [reducer_eq]
  obtain ⟨x, i⟩ := p
  obtain ⟨y, k⟩ := q
  simp only
  have hs : i.slt k = true ↔ i.toInt < k.toInt := BitVec.slt_iff_toInt_lt
  rcases lt_trichotomy x y with h | h | h
  · rw [if_pos h, if_pos (.inl h)]
    exact ⟨.inl rfl, NoLater.refl _, .inl h⟩
  · subst h
    rw [if_neg (lt_irrefl _)]
    by_cases hi : i.toInt < k.toInt
    · rw [if_pos (.inr ⟨rfl, hs.mpr hi⟩)]
      exact ⟨.inl rfl, NoLater.refl _, .inr ⟨rfl, hi.le⟩⟩
    · rw [if_neg (fun c => c.elim (lt_irrefl _) fun c => hi (hs.mp c.2))]
      exact ⟨.inr rfl, .inr ⟨rfl, not_lt.mp hi⟩, NoLater.refl _⟩
  · rw [if_neg h.not_gt, if_neg (fun c => c.elim h.not_gt fun c => h.ne' c.1)]
    exact ⟨.inr rfl, .inl h, NoLater.refl _⟩

/-- Folding the reducer over a list gives the start or a member of the list, and one that comes no later than any. -/
theorem fold_first (l : List (EReal × BitVec 32)) (b : EReal × BitVec 32) :
    (l.foldl (reducer_argmin_f32_i32 (F := Ideal)) b = b ∨ l.foldl (reducer_argmin_f32_i32 (F := Ideal)) b ∈ l)
      ∧ NoLater (l.foldl (reducer_argmin_f32_i32 (F := Ideal)) b) b
      ∧ ∀ q ∈ l, NoLater (l.foldl (reducer_argmin_f32_i32 (F := Ideal)) b) q := by
  induction l generalizing b with
  | nil => exact ⟨.inl rfl, NoLater.refl _, fun q h => by cases h⟩
  | cons p l ih =>
    obtain ⟨hm, hb, hl⟩ := ih (reducer_argmin_f32_i32 (F := Ideal) b p)
    obtain ⟨hc, h1, h2⟩ := reducer_first b p
    rw [List.foldl_cons]
    refine ⟨?_, hb.trans h1, ?_⟩
    · rcases hm with hm | hm
      · rw [hm]
        refine hc.imp id fun e => ?_
        rw [e]
        exact List.mem_cons_self
      · exact .inr (List.mem_cons_of_mem _ hm)
    · intro q hq
      rcases List.mem_cons.mp hq with rfl | hq
      · exact hb.trans h2
      · exact hl q hq

/-- The pairs a two-operand reduction folds over at `j`: those at the indices that drop to `j`. -/
theorem mem_fiber {s t : Shape} {axes : List (Fin s.rank)} {α β : Type} (x : s.Idx → α) (y : s.Idx → β)
    (h : s.ReducesTo axes t) (j : t.Idx) (p : α × β) :
    p ∈ Host.argReduceFiber x y h j ↔ ∃ i, h.drop i = j ∧ p = (x i, y i) := by
  unfold Host.argReduceFiber
  rw [List.mem_map]
  constructor
  · rintro ⟨n, hn, rfl⟩
    exact ⟨_, of_decide_eq_true (List.mem_filter.mp hn).2, rfl⟩
  · rintro ⟨i, hi, rfl⟩
    refine ⟨s.rowMajor i, List.mem_filter.mpr ⟨List.mem_finRange _, decide_eq_true ?_⟩, ?_⟩
    · rw [Equiv.symm_apply_apply]; exact hi
    · rw [Equiv.symm_apply_apply]

/-- The pairs folded over at `j`: each grid point's distance to `j`'s element, with the point's number. -/
theorem mem_dist (dist : S8x4194304.Idx → EReal) (j : S4194304.Idx) (p : EReal × BitVec 32) :
    p ∈ Host.argReduceFiber dist (iotaInDim S8x4194304 32 0) reducesTo_S8x4194304_S4194304_d0 j
      ↔ ∃ r : Fin 8, p = (dist (ix2 r (j 0)), BitVec.ofNat 32 r.val) := by
  rw [mem_fiber]
  have hd : ∀ i : S8x4194304.Idx, (reducesTo_S8x4194304_S4194304_d0.drop i 0 : Nat) = i 1 := fun i =>
    Shape.ReducesTo.drop_apply_val_of_eq reducesTo_S8x4194304_S4194304_d0 i 0 1
  constructor
  · rintro ⟨i, hi, rfl⟩
    obtain ⟨r, c, rfl⟩ : ∃ (r : Fin 8) (c : Fin 4194304), i = ix2 r c := ⟨i 0, i 1, eq_ix2 i⟩
    have h1 := hd (ix2 r c)
    rw [hi] at h1
    have e : c = j 0 := Fin.ext h1.symm
    subst e
    exact ⟨r, rfl⟩
  · rintro ⟨r, rfl⟩
    refine ⟨ix2 r (j 0), ?_, rfl⟩
    rw [eq_ix1 (reducesTo_S8x4194304_S4194304_d0.drop (ix2 r (j 0))), eq_ix1 j]
    exact congrArg ix1 (Fin.ext (hd _))

/-- On the extended reals a two-operand arg-reduction's index is that of the plain fold. -/
theorem arg_fold {s t u : Shape} {axes : List (Fin s.rank)} {β : Type} (f : EReal × β → EReal × β → EReal × β)
    (x : s.Idx → EReal) (y : s.Idx → β) (ix : u.Idx → EReal) (iy : u.Idx → β) (h : s.ReducesTo axes t) (hu : 0 < u.numel)
    (j : t.Idx) : (Host.argReduce (F := Ideal) (φ := .f32) f x y ix iy h hu j).2
      = ((Host.argReduceFiber x y h j).foldl f (ix (Shape.Idx.first hu), iy (Shape.Idx.first hu))).2 := by
  rw [Ideal.argReduce_eq_reduce2, Host.reduce2_eq_foldl_fiber]

/-- The reference's arg-min spelt out. -/
theorem refArg_eq (dist : FVec Ideal S8x4194304 .f32) : refArg dist
    = fun j => (Host.argReduce reducer_argmin_f32_i32 dist (iotaInDim S8x4194304 32 0) (constant S_ .f32 0x7F800000#32)
      (constantI S_ 32 0#32) reducesTo_S8x4194304_S4194304_d0 h_S_ j).2 := by
  unfold refArg
  with_reducible rfl

/-- The reference's arg-min as a fold over those pairs. -/
theorem refArg_fold (dist : S8x4194304.Idx → EReal) (j : S4194304.Idx) :
    refArg dist j = ((Host.argReduceFiber dist (iotaInDim S8x4194304 32 0) reducesTo_S8x4194304_S4194304_d0 j).foldl
      (reducer_argmin_f32_i32 (F := Ideal)) (constant (F := Ideal) S_ .f32 0x7F800000#32 (Shape.Idx.first h_S_),
        constantI S_ 32 0#32 (Shape.Idx.first h_S_))).2 := by
  rw [refArg_eq]
  exact arg_fold (reducer_argmin_f32_i32 (F := Ideal)) dist (iotaInDim S8x4194304 32 0) (constant (F := Ideal) S_ .f32 0x7F800000#32)
    (constantI S_ 32 0#32) reducesTo_S8x4194304_S4194304_d0 h_S_ j

/-- The arg-min of finite distances: the first index of least distance. -/
theorem refArg_first (dist : S8x4194304.Idx → EReal) (j : S4194304.Idx)
    (hfin : ∀ r : Fin 8, dist (ix2 r (j 0)) < ⊤) :
    ∃ r : Fin 8, refArg dist j = BitVec.ofNat 32 r.val
      ∧ (∀ r' : Fin 8, dist (ix2 r (j 0)) ≤ dist (ix2 r' (j 0)))
      ∧ ∀ r' < r, dist (ix2 r (j 0)) < dist (ix2 r' (j 0)) := by
  have hlist := mem_dist dist j
  rw [refArg_fold, show (constant (F := Ideal) S_ .f32 0x7F800000#32 (Shape.Idx.first h_S_) : EReal)
    = Ideal.ofBits .f32 0x7F800000#32 from rfl, show constantI S_ 32 0#32 (Shape.Idx.first h_S_) = 0#32 from rfl]
  generalize Host.argReduceFiber dist (iotaInDim S8x4194304 32 0) reducesTo_S8x4194304_S4194304_d0 j = l at hlist ⊢
  obtain ⟨hm, hb, hl⟩ := fold_first l (Ideal.ofBits .f32 0x7F800000#32, 0#32)
  generalize l.foldl (reducer_argmin_f32_i32 (F := Ideal)) (Ideal.ofBits .f32 0x7F800000#32, 0#32) = p at hm hb hl ⊢
  have hlt : p.1 < ⊤ := by
    rcases hl _ ((hlist _).mpr ⟨0, rfl⟩) with h | h
    · exact h.trans (hfin 0)
    · exact h.1 ▸ hfin 0
  have htop : Ideal.ofBits .f32 0x7F800000#32 = ⊤ := by simp [Ideal.ofBits, Ideal.ieee]
  have hmem : p ∈ l := hm.resolve_left fun e => by rw [e, htop] at hlt; exact lt_irrefl _ hlt
  obtain ⟨r, rfl⟩ := (hlist p).mp hmem
  have hint : ∀ r : Fin 8, (BitVec.ofNat 32 r.val).toInt = (r.val : ℤ) := by decide
  refine ⟨r, rfl, fun r' => ?_, fun r' hr => ?_⟩
  · exact (hl _ ((hlist _).mpr ⟨r', rfl⟩)).elim (fun h => h.le) fun h => h.1.le
  · refine (hl _ ((hlist _).mpr ⟨r', rfl⟩)).resolve_right fun h => ?_
    have := h.2
    simp only [hint] at this
    have h3 : r'.val < r.val := hr
    omega

/-! ## The gather -/

/-- Gathering at an index from 0 to 7 reads the grid there. -/
theorem refPick_apply (g : FVec Ideal S8 .f32) (k : IVec S4194304 32) (j : S4194304.Idx) (r : Fin 8)
    (hk : k j = BitVec.ofNat 32 r.val) : refPick g k j = g (ix1 r) := by
  unfold refPick Host.gather
  refine congrArg g (funext fun b => ?_)
  fin_cases b
  refine Fin.ext ?_
  show GatherDims.start _ j _ 0 + GatherDims.batchCoord _ j 0 + GatherDims.offCoord _ j 0 = r.val
  rw [GatherDims.batchCoord_eq_zero _ j 0 (by decide),
    GatherDims.offCoord_eq_zero _ j 0 (fun h => ((GatherDims.mem_sKept _ 0).mp h).1 (by decide))]
  unfold GatherDims.start
  rw [dif_pos (by decide)]
  rw [broadcastInDim_apply _ _ _ _ j (fun b => by fin_cases b; rfl)]
  show min (Scalar.select (IntOp.cmpi .slt (k j) 0#32) (k j + 8#32) (k j)).toInt.toNat 7 + 0 + 0 = r.val
  rw [hk]
  exact (by decide : ∀ r : Fin 8, min (Scalar.select (IntOp.cmpi .slt (BitVec.ofNat 32 r.val) 0#32)
    (BitVec.ofNat 32 r.val + 8#32) (BitVec.ofNat 32 r.val)).toInt.toNat 7 + 0 + 0 = r.val) r

end Cert.Hand
-- ==== Proof.RefAt.lean ====
/- The reference's result read one element at a time: the plain formula `refAt` of the weights, the scale and the first
   nearest seventh; and the precondition read one element at a time. -/
module

public import proofs.«01_k».proof.Proof.RefNearest

@[expose] public section

noncomputable section

namespace Cert.Hand

open Idealize.ShloMosaic Idealize.ShloMosaic.ValueIdx
open Cert.ReferenceIdeal Cert.ReferenceIdeal.Facts₀

/-! ## The constants -/

/-- The pattern 0x4A800000 is the number of elements. -/
theorem bits_cnt_ref : Ideal.ofBits .f32 0x4A800000#32 = ((cnt : ℝ) : EReal) := by
  unfold cnt; simp [Ideal.ofBits, Ideal.ieee]; rw [← EReal.coe_mul]; norm_num
/-- The pattern 0x3F800000 is 1. -/
theorem bits_one_ref : Ideal.ofBits .f32 0x3F800000#32 = ((1 : ℝ) : EReal) := Ideal.ofBits_one_f32
/-- The pattern 0xBF800000 is −1. -/
theorem bits_neg_one_ref : Ideal.ofBits .f32 0xBF800000#32 = ((-1 : ℝ) : EReal) := by
  simp [Ideal.ofBits, Ideal.ieee, -EReal.coe_mul, -EReal.coe_neg]; norm_num
/-- The pattern 0x3FC00000 is 3/2. -/
theorem bits_three_halves : Ideal.ofBits .f32 0x3FC00000#32 = ((3 / 2 : ℝ) : EReal) := by
  simp [Ideal.ofBits, Ideal.ieee, -EReal.coe_mul]; norm_num
/-- The pattern 0x40600000 is 7/2. -/
theorem bits_seven_halves : Ideal.ofBits .f32 0x40600000#32 = ((7 / 2 : ℝ) : EReal) := by
  simp [Ideal.ofBits, Ideal.ieee, -EReal.coe_mul]; norm_num
/-- The pattern 0x40B00000 is 11/2. -/
theorem bits_eleven_halves : Ideal.ofBits .f32 0x40B00000#32 = ((11 / 2 : ℝ) : EReal) := by
  simp [Ideal.ofBits, Ideal.ieee, -EReal.coe_mul]; norm_num

/-! ## The mean, the deviation, the quotient -/

/-- The host's sum of a whole array from zero is the sum over its indices. -/
theorem host_sum (x : S2048x2048.Idx → EReal) (j : S_.Idx) :
    (Host.reduceAdd (F := Ideal) (φ := .f32) x (constant S_ .f32 0x00000000#32) reducesTo_S2048x2048_S_d0_1 h_S_ j : EReal)
      = ∑ i, x i := by
  rw [hostReduceAdd_apply, Ideal.hostReduceAdd_total _ (fun b => b.elim0)]
  refine (congrArg (· + _) Ideal.ofBits_zero_f32).trans (zero_add _)

/-- The reference's mean is the sum of the weights over their number. -/
theorem refMean_apply (w : S2048x2048.Idx → EReal) (j : S_.Idx) : (refMean w j : EReal) = kerMean (∑ i, w i) := by
  unfold refMean kerMean
  rw [hostDivf_apply, host_sum]
  exact congrArg (Ideal.div _) bits_cnt_ref

/-- The reference's deviation is the weight less the mean. -/
theorem refOff_apply (w : S2048x2048.Idx → EReal) (i : S2048x2048.Idx) :
    (refOff w i : EReal) = w i - kerMean (∑ i, w i) := by
  unfold refOff kerMean
  rw [subf_apply, broadcastInDim_apply _ _ _ _ (ix2 (0 : Fin 1) (0 : Fin 1)) (fun b => by fin_cases b <;> rfl), hostDivf_apply,
    broadcastInDim_scalar_apply, broadcastInDim_scalar_apply, host_sum]
  exact congrArg (fun z => w i - Ideal.div _ z) bits_cnt_ref

/-- The reference's divisor of the variance is the number of elements less one. -/
theorem refCount_apply (j : S_.Idx) : (refCount j : EReal) = ((cnt - 1 : ℝ) : EReal) := by
  have e : (refCount j : EReal) = Ideal.ofBits .f32 0x4A800000#32 - (((1#32 : BitVec 32).toInt : ℝ) : EReal) := rfl
  rw [e, bits_cnt_ref, show (1#32 : BitVec 32).toInt = 1 by decide, EReal.coe_sub]
  norm_num

/-- The reference's standard deviation is `stdOf` of the weights. -/
theorem refStd_apply (w : S2048x2048.Idx → EReal) (j : S_.Idx) : (refStd w j : EReal) = stdOf w := by
  have e : (refStd w j : EReal) = Ideal.sqrt (Scalar.select (Ideal.cmp .ogt (refCount j) (Ideal.ofBits .f32 0x00000000#32))
      (Ideal.div (Host.reduceAdd (F := Ideal) (φ := .f32) (mulf (refOff w) (refOff w)) (constant S_ .f32 0x00000000#32)
        reducesTo_S2048x2048_S_d0_1 h_S_ j) (refCount j)) (Ideal.ofBits .f32 0x7FC00000#32)) := rfl
  rw [e, refCount_apply, host_sum, Ideal.ofBits_zero_f32]
  have hc : Ideal.cmp .ogt (((cnt - 1 : ℝ)) : EReal) 0 = 1#1 := by
    have : (0 : EReal) < ((cnt - 1 : ℝ) : EReal) := by exact_mod_cast cnt_pred_pos
    unfold Ideal.cmp
    simp only [this, decide_true]
    rfl
  rw [hc]
  unfold stdOf
  refine congrArg (fun z => Ideal.sqrt (Ideal.div z _)) (Finset.sum_congr rfl fun i _ => ?_)
  rw [mulf_apply]
  exact congrArg₂ (fun x y : EReal => x * y) (refOff_apply w i) (refOff_apply w i)

/-- The reference's normalised weight is `quotOf` of the weights and the scale. -/
theorem refQuot_apply (w : S2048x2048.Idx → EReal) (a : S_.Idx → EReal) (i : S2048x2048.Idx) :
    (refQuot w a i : EReal) = quotOf w (a ix0) i := by
  unfold refQuot quotOf
  rw [hostDivf_apply, hostDivf_apply, subf_apply, broadcastInDim_scalar_apply, broadcastInDim_scalar_apply,
    broadcastInDim_scalar_apply, refStd_apply]
  exact congrArg (fun z => Ideal.div (Ideal.div (w i - z) _) _) (refMean_apply w ix0)

/-- The reference's clipping is `clip` at every element. -/
theorem refClip_apply (x : S2048x2048.Idx → EReal) (i : S2048x2048.Idx) : (refClip x i : EReal) = clip (x i) := by
  have e : (refClip x i : EReal) = min (Ideal.ofBits .f32 0x3F800000#32) (max (Ideal.ofBits .f32 0xBF800000#32) (x i)) := rfl
  rw [e, bits_one_ref, bits_neg_one_ref]
  rfl

/-- A clipped value is real. -/
theorem clip_real (q : EReal) : ∃ r : ℝ, clip q = (r : EReal) := by
  have h1 : clip q ≤ ((1 : ℝ) : EReal) := min_le_left _ _
  have h2 : ((-1 : ℝ) : EReal) ≤ clip q :=
    le_min (by exact_mod_cast (by norm_num : (-1 : ℝ) ≤ 1)) (le_max_left _ _)
  refine ⟨(clip q).toReal, (EReal.coe_toReal ?_ ?_).symm⟩
  · intro h; rw [h] at h1; exact absurd h1 (not_le.mpr (EReal.coe_lt_top _))
  · intro h; rw [h] at h2; exact absurd h2 (not_le.mpr (EReal.bot_lt_coe _))

/-! ## One element -/

/-- The place in the flat array of a place in the square one. -/
def flat (y : S2048x2048.Idx) : S4194304.Idx := Shape.reshapeEquiv shapeCasts_S4194304_S2048x2048 y

/-- The distance of a place's magnitude from the `r`-th seventh. -/
theorem refDist_apply (x : S2048x2048.Idx → EReal) (y : S2048x2048.Idx) (r : Fin 8) :
    (refDist refGrid x (ix2 r (flat y 0)) : EReal) = gap (max (x y) (-x y)) r.val := by
  unfold refDist
  have eg : broadcastInDim S8x4194304 ![0, 1] bcast_S8x1_S8x4194304_0_1
      (broadcastInDim S8x1 ![0] bcast_S8_S8x1_0 refGrid) (ix2 r (flat y 0)) = refGrid (ix1 r) := by
    rw [broadcastInDim_apply _ _ _ _ (ix2 r (0 : Fin 1)) (fun b => by fin_cases b <;> rfl),
      broadcastInDim_apply _ _ _ _ (ix1 r) (fun b => by fin_cases b; rfl)]
  have ex : broadcastInDim S8x4194304 ![0, 1] bcast_S1x4194304_S8x4194304_0_1
      (broadcastInDim S1x4194304 ![1] bcast_S4194304_S1x4194304_1
        (shapeCast S4194304 (Host.absf (F := Ideal) (φ := .f32) x) shapeCasts_S2048x2048_S4194304)) (ix2 r (flat y 0))
      = Host.absf (F := Ideal) (φ := .f32) x y := by
    rw [broadcastInDim_apply _ _ _ _ (ix2 (n1 := 4194304) (0 : Fin 1) (flat y 0)) (fun b => by fin_cases b <;> rfl),
      broadcastInDim_apply _ _ _ _ (flat y) (fun b => by fin_cases b; rfl)]
    unfold shapeCast flat
    rw [Shape.reshapeEquiv_reshapeEquiv, Shape.reshapeEquiv_self]
  have e : ∀ p q : FVec Ideal S8x4194304 .f32, ∀ i, (Host.absf (subf p q) i : EReal)
      = max ((p i : EReal) - q i) (-((p i : EReal) - q i)) := fun p q i => rfl
  rw [e, eg, ex, refGrid_apply]
  rfl

/-- THE REFERENCE'S ELEMENT: the plain formula at the first nearest seventh. -/
theorem refOut_apply (w : S2048x2048.Idx → EReal) (a : S_.Idx → EReal) (y : S2048x2048.Idx) :
    ∃ k, FirstNearest (max (clip (quotOf w (a ix0) y)) (-clip (quotOf w (a ix0) y))) k
      ∧ (refOut w a y : EReal) = refAt w (a ix0) y k := by
  have ec : (refClip (refQuot w a) y : EReal) = clip (quotOf w (a ix0) y) := by
    rw [refClip_apply]; exact congrArg clip (refQuot_apply w a y)
  obtain ⟨c, hc⟩ := clip_real (quotOf w (a ix0) y)
  have habs : max (c : EReal) (-(c : EReal)) = ((|c| : ℝ) : EReal) := by
    rw [← EReal.coe_neg, ← EReal.coe_strictMono.monotone.map_max]; rfl
  have hd : ∀ r : Fin 8, (refDist refGrid (refClip (refQuot w a)) (ix2 r (flat y 0)) : EReal)
      = gap (max (clip (quotOf w (a ix0) y)) (-clip (quotOf w (a ix0) y))) r.val := fun r => by
    rw [refDist_apply, ec]
  obtain ⟨r, hr, hle, hlt⟩ := refArg_first (refDist refGrid (refClip (refQuot w a))) (flat y) (fun r => by
    rw [hd, hc, habs, gap_coe]; exact EReal.coe_lt_top _)
  refine ⟨r.val, ⟨r.isLt, fun j hj => ?_, fun j hj => ?_⟩, ?_⟩
  · have := hle ⟨j, hj⟩
    rwa [hd, hd] at this
  · have := hlt ⟨j, hj.trans r.isLt⟩ hj
    rwa [hd, hd] at this
  · have e : ∀ (p : FVec Ideal S4194304 .f32) (s b : FVec Ideal S2048x2048 .f32),
        (mulf (mulf (shapeCast S2048x2048 p shapeCasts_S4194304_S2048x2048) (Host.sign s)) b y : EReal)
          = p (flat y) * Ideal.sign (s y) * b y := fun p s b => rfl
    unfold refOut
    rw [e, refPick_apply _ _ _ r hr, refGrid_apply, broadcastInDim_scalar_apply, ec]
    rfl

end Cert.Hand
-- ==== Proof.Untied.lean ====
/- The precondition read one element at a time. -/
module

public import proofs.«01_k».proof.Proof.RefAt

@[expose] public section

noncomputable section

namespace Cert.Hand

open Idealize.ShloMosaic Idealize.ShloMosaic.ValueIdx

/-- The side conditions of the precondition's operations. -/
theorem untied_facts : Cert.Pre_spread_and_untied.Facts where
  reducesTo_S2048x2048_S_d0_1 := by decide
  h_S_ := by decide
  bcast_S_S1x1 := by decide
  bcast_S1x1_S2048x2048_0_1 := by decide
  bcast_S_S2048x2048 := by decide

section
open Cert.ReferenceIdeal Cert.ReferenceIdeal.Facts₀

/-- Seven times the magnitudes of the quotients. -/
def steps (w : FVec Ideal S2048x2048 .f32) (a : FVec Ideal S_ .f32) : FVec Ideal S2048x2048 .f32 :=
  mulf (Host.absf (refQuot w a)) (broadcastInDim S2048x2048 ![] bcast_S_S2048x2048 (constant S_ .f32 0x40E00000#32))

/-- Where `steps` is not a given constant. -/
def isNot (w : FVec Ideal S2048x2048 .f32) (a : FVec Ideal S_ .f32) (b : BitVec 32) : IVec S2048x2048 1 :=
  cmpf .une (steps w a) (broadcastInDim S2048x2048 ![] bcast_S_S2048x2048 (constant S_ .f32 b))

/-- The precondition in the reference's own terms. -/
theorem untied_eq (w : FVec Ideal S2048x2048 .f32) (a : FVec Ideal S_ .f32) :
    @Cert.Pre_spread_and_untied.fn untied_facts Ideal _ w a
      = andi (andi (andi (broadcastInDim S2048x2048 ![] bcast_S_S2048x2048
            (cmpf .ogt (refStd w) (constant S_ .f32 0x00000000#32)))
          (isNot w a 0x3FC00000#32)) (isNot w a 0x40600000#32)) (isNot w a 0x40B00000#32) := rfl

/-- A conjunction of bits is one only if both are. -/
theorem both : ∀ a b : BitVec 1, IntOp.andi a b = 1#1 → a = 1#1 ∧ b = 1#1 := by decide

/-- Where the precondition's test against a pattern holds, seven times the normalised weight's size isn't that pattern's number. -/
theorem isNot_apply (w : S2048x2048.Idx → EReal) (a : S_.Idx → EReal) (b : BitVec 32) (y : S2048x2048.Idx)
    (h : isNot w a b y = 1#1) :
    max (quotOf w (a ix0) y) (-quotOf w (a ix0) y) * ((7 : ℝ) : EReal) ≠ Ideal.ofBits .f32 b := by
  have e : isNot w a b y = Ideal.cmp .une (max (refQuot w a y) (-refQuot w a y : EReal) * Ideal.ofBits .f32 0x40E00000#32)
      (Ideal.ofBits .f32 b) := rfl
  rw [e, bits_seven_ref, refQuot_apply] at h
  intro hc
  rw [hc] at h
  unfold Ideal.cmp at h
  simp at h

/-- THE PRECONDITION AT AN ELEMENT: the weights spread, and seven times the quotient's magnitude is none of 3/2, 7/2
    and 11/2. -/
theorem untied_apply (w : S2048x2048.Idx → EReal) (a : S_.Idx → EReal)
    (h : @Cert.Pre_spread_and_untied.fn untied_facts Ideal _ w a = fun _ => 1#1) (y : S2048x2048.Idx) :
    0 < stdOf w
      ∧ max (quotOf w (a ix0) y) (-quotOf w (a ix0) y) * ((7 : ℝ) : EReal) ≠ ((3 / 2 : ℝ) : EReal)
      ∧ max (quotOf w (a ix0) y) (-quotOf w (a ix0) y) * ((7 : ℝ) : EReal) ≠ ((7 / 2 : ℝ) : EReal)
      ∧ max (quotOf w (a ix0) y) (-quotOf w (a ix0) y) * ((7 : ℝ) : EReal) ≠ ((11 / 2 : ℝ) : EReal) := by
  rw [untied_eq] at h
  obtain ⟨h, h5⟩ := both _ _ (congrFun h y)
  obtain ⟨h, h3⟩ := both _ _ h
  obtain ⟨h, h1⟩ := both _ _ h
  refine ⟨?_, ?_, ?_, ?_⟩
  · rw [broadcastInDim_scalar_apply] at h
    have e : cmpf .ogt (refStd w) (constant S_ .f32 0x00000000#32) ix0
        = Ideal.cmp .ogt (refStd w ix0) (Ideal.ofBits .f32 0x00000000#32) := rfl
    rw [e, refStd_apply, Ideal.ofBits_zero_f32] at h
    by_contra hc
    unfold Ideal.cmp at h
    simp [hc] at h
  · rw [← bits_three_halves]; exact isNot_apply w a _ y h1
  · rw [← bits_seven_halves]; exact isNot_apply w a _ y h3
  · rw [← bits_eleven_halves]; exact isNot_apply w a _ y h5

end

end Cert.Hand
-- ==== Proof.lean ====
module

public import proofs.«01_k».proof.Defs
public import proofs.«01_k».proof.Proof.Gen.KernelIdeal
public import proofs.«01_k».proof.Proof.Gen.ReferenceIdeal
public import proofs.«01_k».proof.Proof.KFrame
public import proofs.«01_k».proof.Proof.KerAt
public import proofs.«01_k».proof.Proof.Untied
public import Idealize.ShloMosaic.Adequacy
public import Idealize.ShloMosaic.Init

@[expose] public section

noncomputable section

namespace Cert.Proof

open Idealize.ShloMosaic Idealize.SL.Sem Cert.Hand

/-- The array has as many places as the divisor of the mean says. -/
theorem places : (Fintype.card Cert.ReferenceIdeal.S2048x2048.Idx : ℝ) = cnt := by
  have h : Fintype.card Cert.ReferenceIdeal.S2048x2048.Idx = 4194304 := by
    rw [Shape.card_idx]
    rfl
  rw [h]
  unfold cnt
  norm_num

/-- Under the precondition the kernel's result is the reference's, element by element. -/
theorem results_agree (w : Cert.ReferenceIdeal.S2048x2048.Idx → EReal) (a : Cert.ReferenceIdeal.S_.Idx → EReal)
    (h : @Cert.Pre_spread_and_untied.fn untied_facts Ideal _ w a = fun _ => 1#1) :
    kerOut w (a ValueIdx.ix0) = refOut w a := by
  funext y
  obtain ⟨hstd, h1, h3, h5⟩ := untied_apply w a h y
  obtain ⟨k, hk, hr⟩ := refOut_apply w a y
  exact (kerOut_apply w (a ValueIdx.ix0) y).trans
    ((formulas_agree w places (a ValueIdx.ix0) y k hstd h1 h3 h5 hk).trans hr.symm)

/-- The claim. -/
theorem claim : Cert.Claim :=
  ⟨Cert.Kernel.Gen.facts, Cert.KernelIdeal.Gen.facts, Cert.ReferenceIdeal.Gen.facts, untied_facts,
    fun m ρ _ => Cert.HandPrinted.printed_frame m ρ,
    kernel_frame,
    fun m ρ _ => kernel_frame m ρ trivial,
    reference_frame,
    fun m ρ _ => reference_frame m ρ trivial,
    IdealRules.named_const.statement _ _ _ _ _ rfl,
    fun m g m' g' hpre hagree => by
      refine ⟨fun c => kerOut (m ((c.tc : Thread Cert.KernelIdeal.nD Cert.KernelIdeal.τ).loc Cert.KernelIdeal.main_arg0))
          ((m ((c.tc : Thread Cert.KernelIdeal.nD Cert.KernelIdeal.τ).loc Cert.KernelIdeal.main_arg1) :
            Vec Ideal Cert.KernelIdeal.S_ .f32) ValueIdx.ix0), kernel_run m g, ?_⟩
      refine θ_run_mono (reference_run m' g') fun r h c => ⟨?_, (h c).2⟩
      rw [(h c).1, (hagree c).1, (hagree c).2]
      exact (results_agree _ _ (hpre c)).symm⟩

end Cert.Proof

end
